-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x768x4096 : Shape := ⟨3, ![16, 768, 4096]⟩
abbrev S409 : Shape := ⟨1, ![409]⟩
abbrev S_ : Shape := ⟨0, ![]⟩

class Facts : Prop where
  bcast_S_S409 : S_.BroadcastsInDim S409 (![] : Fin 0 → Fin S409.rank)
  reducesTo_S409_S_d0 : S409.ReducesTo [0] S_
  h_S_ : 0 < S_.numel

variable [Facts]

def fn {F : FTy → Type} [FloatOps F] (main_arg0 : FVec F S16x768x4096 .f32) (main_arg1 : IVec S409 32) : IVec S_ 1 :=
  let main_c : IVec S_ 32 := constantI S_ 32 0#32
  let main_v0 : IVec S409 32 := broadcastInDim S409 ![] bcast_S_S409 main_c
  let main_v1 : IVec S409 1 := cmpi .sge main_arg1 main_v0
  let main_c_0 : IVec S_ 1 := constantI S_ 1 1#1
  let main_v2 : IVec S_ 1 := (fun x v => Host.reduce IntOp.andi x v reducesTo_S409_S_d0 h_S_) main_v1 main_c_0
  let main_c_1 : IVec S_ 32 := constantI S_ 32 4096#32
  let main_v3 : IVec S409 32 := broadcastInDim S409 ![] bcast_S_S409 main_c_1
  let main_v4 : IVec S409 1 := cmpi .slt main_arg1 main_v3
  let main_c_2 : IVec S_ 1 := constantI S_ 1 1#1
  let main_v5 : IVec S_ 1 := (fun x v => Host.reduce IntOp.andi x v reducesTo_S409_S_d0 h_S_) main_v4 main_c_2
  let main_v6 : IVec S_ 1 := andi main_v2 main_v5
  main_v6
-- ==== Kernel.lean ====
abbrev S16x768x4096 : Shape := ⟨3, ![16, 768, 4096]⟩
abbrev S409 : Shape := ⟨1, ![409]⟩
abbrev S1 : Shape := ⟨1, ![1]⟩
abbrev S7 : Shape := ⟨1, ![7]⟩
abbrev S416 : Shape := ⟨1, ![416]⟩
abbrev S4096 : Shape := ⟨1, ![4096]⟩
abbrev S16 : Shape := ⟨1, ![16]⟩
abbrev S_ : Shape := ⟨0, ![]⟩
abbrev S12288x4096 : Shape := ⟨2, ![12288, 4096]⟩
abbrev S1x4096 : Shape := ⟨2, ![1, 4096]⟩
abbrev S768x4096 : Shape := ⟨2, ![768, 4096]⟩

abbrev nBuf : Table → Nat
  | .hbm => 10
  | .local .tc .vmem => 5
  | .local .scVector .vmem => 2
  | _ => 0

abbrev bufTy : (tb : Table) → Fin (nBuf tb) → BufTy
  | .hbm, ⟨0, _⟩ => ⟨S16x768x4096, .f32⟩
  | .hbm, ⟨1, _⟩ => ⟨S409, .i32⟩
  | .hbm, ⟨2, _⟩ => ⟨S1, .i32⟩
  | .hbm, ⟨3, _⟩ => ⟨S7, .i32⟩
  | .hbm, ⟨4, _⟩ => ⟨S416, .i32⟩
  | .hbm, ⟨5, _⟩ => ⟨S4096, .f32⟩
  | .hbm, ⟨6, _⟩ => ⟨S12288x4096, .f32⟩
  | .hbm, ⟨7, _⟩ => ⟨S1x4096, .f32⟩
  | .hbm, ⟨8, _⟩ => ⟨S12288x4096, .f32⟩
  | .hbm, ⟨9, _⟩ => ⟨S16x768x4096, .f32⟩
  | .local .tc .vmem, ⟨0, _⟩ => ⟨S768x4096, .f32⟩
  | .local .tc .vmem, ⟨1, _⟩ => ⟨S768x4096, .f32⟩
  | .local .tc .vmem, ⟨2, _⟩ => ⟨S1x4096, .f32⟩
  | .local .tc .vmem, ⟨3, _⟩ => ⟨S768x4096, .f32⟩
  | .local .tc .vmem, ⟨4, _⟩ => ⟨S768x4096, .f32⟩
  | .local .scVector .vmem, ⟨0, _⟩ => ⟨S4096, .f32⟩
  | .local .scVector .vmem, ⟨1, _⟩ => ⟨S416, .i32⟩
  | _, _ => ⟨S16x768x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v2_scv : Ref sig .scVector := ⟨.hbm, 4, rfl⟩
abbrev main_v3_scv : Ref sig .scVector := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_chk1 (i : grid0.Coords) (v263 : IVec S16 32) : Prop :=
  (∀ (k0_h1 : k0_cond1 i = 1#1), ∀ a x, ((![v263] : Fin 1 → IVec S16 32) a x).toNat < S4096.size a)
theorem k0_idx1_inb : ∀ (i : grid0.Coords) (v263 : IVec S16 32) (k0_hw1 : k0_chk1 i v263), ∀ (k0_h1 : k0_cond1 i = 1#1), ∀ a x, ((![v263] : Fin 1 → IVec S16 32) a x).toNat < S4096.size a := fun i v263 k0_hw1 k0_h1 => k0_hw1 k0_h1

def k0_chk2 (i : grid0.Coords) (v264 : IVec S16 32) : Prop :=
  (∀ (k0_h1 : k0_cond1 i = 1#1), ∀ a x, ((![v264] : Fin 1 → IVec S16 32) a x).toNat < S4096.size a)
theorem k0_idx2_inb : ∀ (i : grid0.Coords) (v264 : IVec S16 32) (k0_hw2 : k0_chk2 i v264), ∀ (k0_h1 : k0_cond1 i = 1#1), ∀ a x, ((![v264] : Fin 1 → IVec S16 32) a x).toNat < S4096.size a := fun i v264 k0_hw2 k0_h1 => k0_hw2 k0_h1

def k0_chk3 (i : grid0.Coords) (v265 : IVec S16 32) : Prop :=
  (∀ (k0_h1 : k0_cond1 i = 1#1), ∀ a x, ((![v265] : Fin 1 → IVec S16 32) a x).toNat < S4096.size a)
theorem k0_idx3_inb : ∀ (i : grid0.Coords) (v265 : IVec S16 32) (k0_hw3 : k0_chk3 i v265), ∀ (k0_h1 : k0_cond1 i = 1#1), ∀ a x, ((![v265] : Fin 1 → IVec S16 32) a x).toNat < S4096.size a := fun i v265 k0_hw3 k0_h1 => k0_hw3 k0_h1

def k0_chk4 (i : grid0.Coords) (v266 : IVec S16 32) : Prop :=
  (∀ (k0_h1 : k0_cond1 i = 1#1), ∀ a x, ((![v266] : Fin 1 → IVec S16 32) a x).toNat < S4096.size a)
theorem k0_idx4_inb : ∀ (i : grid0.Coords) (v266 : IVec S16 32) (k0_hw4 : k0_chk4 i v266), ∀ (k0_h1 : k0_cond1 i = 1#1), ∀ a x, ((![v266] : Fin 1 → IVec S16 32) a x).toNat < S4096.size a := fun i v266 k0_hw4 k0_h1 => k0_hw4 k0_h1

def k0_chk5 (i : grid0.Coords) (v267 : IVec S16 32) : Prop :=
  (∀ (k0_h1 : k0_cond1 i = 1#1), ∀ a x, ((![v267] : Fin 1 → IVec S16 32) a x).toNat < S4096.size a)
theorem k0_idx5_inb : ∀ (i : grid0.Coords) (v267 : IVec S16 32) (k0_hw5 : k0_chk5 i v267), ∀ (k0_h1 : k0_cond1 i = 1#1), ∀ a x, ((![v267] : Fin 1 → IVec S16 32) a x).toNat < S4096.size a := fun i v267 k0_hw5 k0_h1 => k0_hw5 k0_h1

def k0_chk6 (i : grid0.Coords) (v268 : IVec S16 32) : Prop :=
  (∀ (k0_h1 : k0_cond1 i = 1#1), ∀ a x, ((![v268] : Fin 1 → IVec S16 32) a x).toNat < S4096.size a)
theorem k0_idx6_inb : ∀ (i : grid0.Coords) (v268 : IVec S16 32) (k0_hw6 : k0_chk6 i v268), ∀ (k0_h1 : k0_cond1 i = 1#1), ∀ a x, ((![v268] : Fin 1 → IVec S16 32) a x).toNat < S4096.size a := fun i v268 k0_hw6 k0_h1 => k0_hw6 k0_h1

def k0_chk7 (i : grid0.Coords) (v269 : IVec S16 32) : Prop :=
  (∀ (k0_h1 : k0_cond1 i = 1#1), ∀ a x, ((![v269] : Fin 1 → IVec S16 32) a x).toNat < S4096.size a)
theorem k0_idx7_inb : ∀ (i : grid0.Coords) (v269 : IVec S16 32) (k0_hw7 : k0_chk7 i v269), ∀ (k0_h1 : k0_cond1 i = 1#1), ∀ a x, ((![v269] : Fin 1 → IVec S16 32) a x).toNat < S4096.size a := fun i v269 k0_hw7 k0_h1 => k0_hw7 k0_h1

def k0_chk8 (i : grid0.Coords) (v270 : IVec S16 32) : Prop :=
  (∀ (k0_h1 : k0_cond1 i = 1#1), ∀ a x, ((![v270] : Fin 1 → IVec S16 32) a x).toNat < S4096.size a)
theorem k0_idx8_inb : ∀ (i : grid0.Coords) (v270 : IVec S16 32) (k0_hw8 : k0_chk8 i v270), ∀ (k0_h1 : k0_cond1 i = 1#1), ∀ a x, ((![v270] : Fin 1 → IVec S16 32) a x).toNat < S4096.size a := fun i v270 k0_hw8 k0_h1 => k0_hw8 k0_h1

def k0_chk9 (i : grid0.Coords) (v271 : IVec S16 32) : Prop :=
  (∀ (k0_h1 : k0_cond1 i = 1#1), ∀ a x, ((![v271] : Fin 1 → IVec S16 32) a x).toNat < S4096.size a)
theorem k0_idx9_inb : ∀ (i : grid0.Coords) (v271 : IVec S16 32) (k0_hw9 : k0_chk9 i v271), ∀ (k0_h1 : k0_cond1 i = 1#1), ∀ a x, ((![v271] : Fin 1 → IVec S16 32) a x).toNat < S4096.size a := fun i v271 k0_hw9 k0_h1 => k0_hw9 k0_h1

def k0_chk10 (i : grid0.Coords) (v272 : IVec S16 32) : Prop :=
  (∀ (k0_h1 : k0_cond1 i = 1#1), ∀ a x, ((![v272] : Fin 1 → IVec S16 32) a x).toNat < S4096.size a)
theorem k0_idx10_inb : ∀ (i : grid0.Coords) (v272 : IVec S16 32) (k0_hw10 : k0_chk10 i v272), ∀ (k0_h1 : k0_cond1 i = 1#1), ∀ a x, ((![v272] : Fin 1 → IVec S16 32) a x).toNat < S4096.size a := fun i v272 k0_hw10 k0_h1 => k0_hw10 k0_h1

def k0_chk11 (i : grid0.Coords) (v273 : IVec S16 32) : Prop :=
  (∀ (k0_h1 : k0_cond1 i = 1#1), ∀ a x, ((![v273] : Fin 1 → IVec S16 32) a x).toNat < S4096.size a)
theorem k0_idx11_inb : ∀ (i : grid0.Coords) (v273 : IVec S16 32) (k0_hw11 : k0_chk11 i v273), ∀ (k0_h1 : k0_cond1 i = 1#1), ∀ a x, ((![v273] : Fin 1 → IVec S16 32) a x).toNat < S4096.size a := fun i v273 k0_hw11 k0_h1 => k0_hw11 k0_h1

def k0_chk12 (i : grid0.Coords) (v274 : IVec S16 32) : Prop :=
  (∀ (k0_h1 : k0_cond1 i = 1#1), ∀ a x, ((![v274] : Fin 1 → IVec S16 32) a x).toNat < S4096.size a)
theorem k0_idx12_inb : ∀ (i : grid0.Coords) (v274 : IVec S16 32) (k0_hw12 : k0_chk12 i v274), ∀ (k0_h1 : k0_cond1 i = 1#1), ∀ a x, ((![v274] : Fin 1 → IVec S16 32) a x).toNat < S4096.size a := fun i v274 k0_hw12 k0_h1 => k0_hw12 k0_h1

def k0_chk13 (i : grid0.Coords) (v275 : IVec S16 32) : Prop :=
  (∀ (k0_h1 : k0_cond1 i = 1#1), ∀ a x, ((![v275] : Fin 1 → IVec S16 32) a x).toNat < S4096.size a)
theorem k0_idx13_inb : ∀ (i : grid0.Coords) (v275 : IVec S16 32) (k0_hw13 : k0_chk13 i v275), ∀ (k0_h1 : k0_cond1 i = 1#1), ∀ a x, ((![v275] : Fin 1 → IVec S16 32) a x).toNat < S4096.size a := fun i v275 k0_hw13 k0_h1 => k0_hw13 k0_h1

def k0_chk14 (i : grid0.Coords) (v276 : IVec S16 32) : Prop :=
  (∀ (k0_h1 : k0_cond1 i = 1#1), ∀ a x, ((![v276] : Fin 1 → IVec S16 32) a x).toNat < S4096.size a)
theorem k0_idx14_inb : ∀ (i : grid0.Coords) (v276 : IVec S16 32) (k0_hw14 : k0_chk14 i v276), ∀ (k0_h1 : k0_cond1 i = 1#1), ∀ a x, ((![v276] : Fin 1 → IVec S16 32) a x).toNat < S4096.size a := fun i v276 k0_hw14 k0_h1 => k0_hw14 k0_h1

def k0_chk15 (i : grid0.Coords) (v277 : IVec S16 32) : Prop :=
  (∀ (k0_h1 : k0_cond1 i = 1#1), ∀ a x, ((![v277] : Fin 1 → IVec S16 32) a x).toNat < S4096.size a)
theorem k0_idx15_inb : ∀ (i : grid0.Coords) (v277 : IVec S16 32) (k0_hw15 : k0_chk15 i v277), ∀ (k0_h1 : k0_cond1 i = 1#1), ∀ a x, ((![v277] : Fin 1 → IVec S16 32) a x).toNat < S4096.size a := fun i v277 k0_hw15 k0_h1 => k0_hw15 k0_h1

def k0_chk16 (i : grid0.Coords) (v278 : IVec S16 32) : Prop :=
  (∀ (k0_h1 : k0_cond1 i = 1#1), ∀ a x, ((![v278] : Fin 1 → IVec S16 32) a x).toNat < S4096.size a)
theorem k0_idx16_inb : ∀ (i : grid0.Coords) (v278 : IVec S16 32) (k0_hw16 : k0_chk16 i v278), ∀ (k0_h1 : k0_cond1 i = 1#1), ∀ a x, ((![v278] : Fin 1 → IVec S16 32) a x).toNat < S4096.size a := fun i v278 k0_hw16 k0_h1 => k0_hw16 k0_h1

def k0_chk17 (i : grid0.Coords) (v279 : IVec S16 32) : Prop :=
  (∀ (k0_h1 : k0_cond1 i = 1#1), ∀ a x, ((![v279] : Fin 1 → IVec S16 32) a x).toNat < S4096.size a)
theorem k0_idx17_inb : ∀ (i : grid0.Coords) (v279 : IVec S16 32) (k0_hw17 : k0_chk17 i v279), ∀ (k0_h1 : k0_cond1 i = 1#1), ∀ a x, ((![v279] : Fin 1 → IVec S16 32) a x).toNat < S4096.size a := fun i v279 k0_hw17 k0_h1 => k0_hw17 k0_h1

def k0_chk18 (i : grid0.Coords) (v280 : IVec S16 32) : Prop :=
  (∀ (k0_h1 : k0_cond1 i = 1#1), ∀ a x, ((![v280] : Fin 1 → IVec S16 32) a x).toNat < S4096.size a)
theorem k0_idx18_inb : ∀ (i : grid0.Coords) (v280 : IVec S16 32) (k0_hw18 : k0_chk18 i v280), ∀ (k0_h1 : k0_cond1 i = 1#1), ∀ a x, ((![v280] : Fin 1 → IVec S16 32) a x).toNat < S4096.size a := fun i v280 k0_hw18 k0_h1 => k0_hw18 k0_h1

def k0_chk19 (i : grid0.Coords) (v281 : IVec S16 32) : Prop :=
  (∀ (k0_h1 : k0_cond1 i = 1#1), ∀ a x, ((![v281] : Fin 1 → IVec S16 32) a x).toNat < S4096.size a)
theorem k0_idx19_inb : ∀ (i : grid0.Coords) (v281 : IVec S16 32) (k0_hw19 : k0_chk19 i v281), ∀ (k0_h1 : k0_cond1 i = 1#1), ∀ a x, ((![v281] : Fin 1 → IVec S16 32) a x).toNat < S4096.size a := fun i v281 k0_hw19 k0_h1 => k0_hw19 k0_h1

def k0_chk20 (i : grid0.Coords) (v282 : IVec S16 32) : Prop :=
  (∀ (k0_h1 : k0_cond1 i = 1#1), ∀ a x, ((![v282] : Fin 1 → IVec S16 32) a x).toNat < S4096.size a)
theorem k0_idx20_inb : ∀ (i : grid0.Coords) (v282 : IVec S16 32) (k0_hw20 : k0_chk20 i v282), ∀ (k0_h1 : k0_cond1 i = 1#1), ∀ a x, ((![v282] : Fin 1 → IVec S16 32) a x).toNat < S4096.size a := fun i v282 k0_hw20 k0_h1 => k0_hw20 k0_h1

def k0_chk21 (i : grid0.Coords) (v283 : IVec S16 32) : Prop :=
  (∀ (k0_h1 : k0_cond1 i = 1#1), ∀ a x, ((![v283] : Fin 1 → IVec S16 32) a x).toNat < S4096.size a)
theorem k0_idx21_inb : ∀ (i : grid0.Coords) (v283 : IVec S16 32) (k0_hw21 : k0_chk21 i v283), ∀ (k0_h1 : k0_cond1 i = 1#1), ∀ a x, ((![v283] : Fin 1 → IVec S16 32) a x).toNat < S4096.size a := fun i v283 k0_hw21 k0_h1 => k0_hw21 k0_h1

def k0_chk22 (i : grid0.Coords) (v284 : IVec S16 32) : Prop :=
  (∀ (k0_h1 : k0_cond1 i = 1#1), ∀ a x, ((![v284] : Fin 1 → IVec S16 32) a x).toNat < S4096.size a)
theorem k0_idx22_inb : ∀ (i : grid0.Coords) (v284 : IVec S16 32) (k0_hw22 : k0_chk22 i v284), ∀ (k0_h1 : k0_cond1 i = 1#1), ∀ a x, ((![v284] : Fin 1 → IVec S16 32) a x).toNat < S4096.size a := fun i v284 k0_hw22 k0_h1 => k0_hw22 k0_h1

def k0_chk23 (i : grid0.Coords) (v285 : IVec S16 32) : Prop :=
  (∀ (k0_h1 : k0_cond1 i = 1#1), ∀ a x, ((![v285] : Fin 1 → IVec S16 32) a x).toNat < S4096.size a)
theorem k0_idx23_inb : ∀ (i : grid0.Coords) (v285 : IVec S16 32) (k0_hw23 : k0_chk23 i v285), ∀ (k0_h1 : k0_cond1 i = 1#1), ∀ a x, ((![v285] : Fin 1 → IVec S16 32) a x).toNat < S4096.size a := fun i v285 k0_hw23 k0_h1 => k0_hw23 k0_h1

def k0_chk24 (i : grid0.Coords) (v286 : IVec S16 32) : Prop :=
  (∀ (k0_h1 : k0_cond1 i = 1#1), ∀ a x, ((![v286] : Fin 1 → IVec S16 32) a x).toNat < S4096.size a)
theorem k0_idx24_inb : ∀ (i : grid0.Coords) (v286 : IVec S16 32) (k0_hw24 : k0_chk24 i v286), ∀ (k0_h1 : k0_cond1 i = 1#1), ∀ a x, ((![v286] : Fin 1 → IVec S16 32) a x).toNat < S4096.size a := fun i v286 k0_hw24 k0_h1 => k0_hw24 k0_h1

def k0_chk25 (i : grid0.Coords) (v287 : IVec S16 32) : Prop :=
  (∀ (k0_h1 : k0_cond1 i = 1#1), ∀ a x, ((![v287] : Fin 1 → IVec S16 32) a x).toNat < S4096.size a)
theorem k0_idx25_inb : ∀ (i : grid0.Coords) (v287 : IVec S16 32) (k0_hw25 : k0_chk25 i v287), ∀ (k0_h1 : k0_cond1 i = 1#1), ∀ a x, ((![v287] : Fin 1 → IVec S16 32) a x).toNat < S4096.size a := fun i v287 k0_hw25 k0_h1 => k0_hw25 k0_h1

def k0_chk26 (i : grid0.Coords) (v288 : IVec S16 32) : Prop :=
  (∀ (k0_h1 : k0_cond1 i = 1#1), ∀ a x, ((![v288] : Fin 1 → IVec S16 32) a x).toNat < S4096.size a)
theorem k0_idx26_inb : ∀ (i : grid0.Coords) (v288 : IVec S16 32) (k0_hw26 : k0_chk26 i v288), ∀ (k0_h1 : k0_cond1 i = 1#1), ∀ a x, ((![v288] : Fin 1 → IVec S16 32) a x).toNat < S4096.size a := fun i v288 k0_hw26 k0_h1 => k0_hw26 k0_h1
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S768x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x768x4096 : Shape := ⟨3, ![16, 768, 4096]⟩
abbrev S409 : Shape := ⟨1, ![409]⟩
abbrev S_ : Shape := ⟨0, ![]⟩
abbrev S409x1 : Shape := ⟨2, ![409, 1]⟩
abbrev S16x768x409 : Shape := ⟨3, ![16, 768, 409]⟩

abbrev nBuf : Space → Nat
  | .hbm => 13
  | .vmem => 0
  | .smem => 0
  | _ => 0

abbrev bufTy : (tb : Table) → Fin (tcTables nBuf tb) → BufTy
  | .hbm, ⟨0, _⟩ => ⟨S16x768x4096, .f32⟩
  | .hbm, ⟨1, _⟩ => ⟨S409, .i32⟩
  | .hbm, ⟨2, _⟩ => ⟨S_, .i32⟩
  | .hbm, ⟨3, _⟩ => ⟨S409, .i32⟩
  | .hbm, ⟨4, _⟩ => ⟨S409, .i1⟩
  | .hbm, ⟨5, _⟩ => ⟨S_, .i32⟩
  | .hbm, ⟨6, _⟩ => ⟨S409, .i32⟩
  | .hbm, ⟨7, _⟩ => ⟨S409, .i32⟩
  | .hbm, ⟨8, _⟩ => ⟨S409, .i32⟩
  | .hbm, ⟨9, _⟩ => ⟨S409x1, .i32⟩
  | .hbm, ⟨10, _⟩ => ⟨S_, .f32⟩
  | .hbm, ⟨11, _⟩ => ⟨S16x768x409, .f32⟩
  | .hbm, ⟨12, _⟩ => ⟨S16x768x4096, .f32⟩
  | _, _ => ⟨S16x768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Spec.lean ====
/-
  What the two calls compute, as pure functions, with no program in sight: the mask over the 4096 time steps that a list
  of 416 words leaves, and the facts about the SparseCore's indexed store from which the mask is built.
-/
module

public import proofs.«01_k».proof.Defs
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Spec

open Cert.KernelIdeal Cert.KernelIdeal.Gen
open Idealize.ShloMosaic

variable {F : FTy → Type} [FloatOps F]

/-! ## The mask -/

/-- The kernel's zero, at the f32 element type. -/
def zeroE : F .f32 := Scalar.ofBits .f32 0x00000000#32
/-- The kernel's one, at the f32 element type. -/
def oneE : F .f32 := Scalar.ofBits .f32 0x3F800000#32

/-- Time step `t` is named by one of the first `n` words of the list. -/
def Named (w : S416.Idx → BitVec 32) (n t : ℕ) : Prop := ∃ j : S416.Idx, (j 0).val < n ∧ (w j).toNat = t

open Classical in
/-- The mask after the first `n` words of the list: zero at the time steps they name, one elsewhere. -/
def maskUpto (w : S416.Idx → BitVec 32) (n : ℕ) : S4096.Idx → F .f32 := fun t => if Named w n (t 0).val then zeroE else oneE

/-- The words of the list from position `n` on, sixteen of them. -/
def rowAt (w : S416.Idx → BitVec 32) (n : ℕ) (h : n + 16 ≤ 416) : S16.Idx → BitVec 32 :=
  fun x => w (fun | 0 => ⟨n + (x 0).val, by have := (x 0).isLt; show _ < 416; have h2 : (x 0).val < 16 := this; omega⟩)

/-- Position `n + k` of the list, `k` below 16, is read by `rowAt` at lane `k`. -/
theorem named_add (w : S416.Idx → BitVec 32) (n t : ℕ) (h : n + 16 ≤ 416) :
    Named w (n + 16) t ↔ Named w n t ∨ ∃ x : S16.Idx, (rowAt w n h x).toNat = t := by
  constructor
  · rintro ⟨j, hj, e⟩
    by_cases hn : (j 0).val < n
    · exact .inl ⟨j, hn, e⟩
    · refine .inr ⟨fun | 0 => ⟨(j 0).val - n, by show _ < 16; omega⟩, ?_⟩
      rw [← e]; unfold rowAt; congr 2; funext a; match a with | 0 => apply Fin.ext; show n + ((j 0).val - n) = (j 0).val; omega
  · rintro (⟨j, hj, e⟩ | ⟨x, e⟩)
    · exact ⟨j, by omega, e⟩
    · exact ⟨_, by have h2 : (x 0).val < 16 := (x 0).isLt; show n + (x 0).val < n + 16; omega, e⟩

/-- A fold that overwrites `f` by the constant `c` at the places each list element selects leaves `c` where some element
    selects and `f` elsewhere. -/
theorem foldl_overwrite {ι κ α : Type} (P : κ → ι → Prop) [∀ k j, Decidable (P k j)] (c : α) (l : List κ) (f : ι → α) (j : ι) :
    (∃ k ∈ l, P k j) ∧ (l.foldl (fun g k => fun j => if P k j then c else g j) f) j = c
      ∨ (¬ ∃ k ∈ l, P k j) ∧ (l.foldl (fun g k => fun j => if P k j then c else g j) f) j = f j := by
  induction l generalizing f with
  | nil => exact .inr ⟨by simp, rfl⟩
  | cons k l ih =>
    rw [List.foldl_cons]
    rcases ih (fun j => if P k j then c else f j) with ⟨⟨k', hk', hp⟩, e⟩ | ⟨hn, e⟩
    · exact .inl ⟨⟨k', List.mem_cons_of_mem _ hk', hp⟩, e⟩
    · rw [e]
      by_cases hk : P k j
      · exact .inl ⟨⟨k, List.mem_cons_self, hk⟩, if_pos hk⟩
      · refine .inr ⟨?_, if_neg hk⟩
        rintro ⟨k', hk', hp⟩
        rcases List.mem_cons.mp hk' with rfl | hk'
        · exact hk hp
        · exact hn ⟨k', hk', hp⟩

open Classical in
/-- Storing zeros at the sixteen places the words from position `n` name takes the mask after `n` words to the mask after
    `n + 16`. -/
theorem storeIdx_mask (w : S416.Idx → BitVec 32) (n : ℕ) (h : n + 16 ≤ 416)
    (hb : ∀ a x, ((![rowAt w n h] : Fin 1 → IVec S16 32) a x).toNat < S4096.size a) :
    storeIdx (F := F) (s := S4096) (e := .f32) (maskUpto w n) ![rowAt w n h] (k0_pay2 (F := F)) (fun _ => 1#1) false hb = maskUpto w (n + 16) := by
  funext t
  unfold storeIdx
  have hz : ∀ x, (k0_pay2 (F := F)) x = zeroE := fun _ => rfl
  simp only [if_true, Bool.false_eq_true, if_false, hz]
  rcases foldl_overwrite (fun (k : Fin (S16.size 0)) (j : S4096.Idx) => ∀ a, (j a).val = (idxAt (s := S4096) ![rowAt w n h] hb (Shape.ofLane k) a).val)
    (zeroE : F .f32) (List.finRange (S16.size 0)) (maskUpto w n) t with ⟨⟨k, -, hk⟩, e⟩ | ⟨hn, e⟩
  · refine e.trans (if_pos ?_).symm
    rw [named_add w n _ h]
    exact .inr ⟨Shape.ofLane k, (hk 0).symm⟩
  · refine e.trans ?_
    unfold maskUpto
    have hiff : Named w (n + 16) (t 0).val ↔ Named w n (t 0).val := by
      rw [named_add w n _ h]
      refine ⟨fun o => o.elim id fun ⟨x, hx⟩ => absurd ⟨x 0, List.mem_finRange _, ?_⟩ hn, .inl⟩
      intro a
      match a with
      | 0 =>
        refine hx.symm.trans ?_
        show (rowAt w n h x).toNat = (rowAt w n h (Shape.ofLane (x 0))).toNat
        congr 2
        funext a; match a with | 0 => rfl
    exact if_congr hiff.symm rfl rfl

/-- A mask every word of which is one is the mask after no word at all. -/
theorem maskUpto_zero (w : S416.Idx → BitVec 32) (f : S4096.Idx → F .f32) (hf : ∀ t, (t 0).val < 4096 → f t = oneE) : f = maskUpto w 0 := by
  funext t
  rw [hf t (t 0).isLt]
  exact (if_neg (by rintro ⟨j, hj, -⟩; omega)).symm

end Cert.Proof.Spec
-- ==== Proof.Setup.lean ====
/-
  The program as the launch theorem sees it: its label sets and tables, the resource algebra (the SparseCore launch's
  rounds, the pipeline's rounds, the transfers' counters), and names for the buffers the proof speaks of.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.Pre_in_range
public import proofs.«01_k».proof.Proof.Spec

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tables -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's own semaphores are distinct and none is a subcore's scoped one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch's rounds library. -/
abbrev EH : Emb UH (MT nD τ sig (HIx 1) (Elt F) ℕ UU ℕ) := embL
/-- The pipeline's rounds library. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## Buffers -/

abbrev xLoc (d : Dev nD) : Loc nD τ sig := (SparseCore.T d).loc main_arg0
abbrev iLoc (d : Dev nD) : Loc nD τ sig := (SparseCore.T d).loc main_arg1
/-- The padded index list, 416 words. -/
abbrev wLoc (d : Dev nD) : Loc nD τ sig := (SparseCore.T d).loc main_v2
/-- The mask, 4096 words. -/
abbrev kLoc (d : Dev nD) : Loc nD τ sig := (SparseCore.T d).loc main_v3

variable (d : Dev nD) (L : grid0.Coords)

abbrev cV : Fin τ.nSC := (L 0).castLE hcore0
abbrev jV : Fin τ.nSub := (L 1).castLE hsub0
/-- The tile at grid coordinates `L` of device `d`. -/
abbrev tile : Thread nD τ := V d (cV L) (jV L)

/-- The tile's mask scratch holds `f`. -/
abbrev maskPts (f : S4096.Idx → Elt F .f32) : sProp 𝕄 := (tile d L).loc cc0_scratch0 ↦{fullShare} f
/-- The tile's index scratch holds `g`. -/
abbrev idxPts (g : S416.Idx → Elt F .i32) : sProp 𝕄 := (tile d L).loc cc0_scratch1 ↦{fullShare} g

end Cert.Proof.Run
-- ==== Proof.Fill.lean ====
/-
  The tile's two loops, unrolled in the program: the mask scratch filled with ones sixteen words at a time, and zeros
  scattered into it sixteen list words at a time. Each is ONE step lemma, at a symbolic offset, which the program's parts
  apply one after another.
-/
module

public import proofs.«01_k».proof.Proof.Setup

@[expose] public section

set_option maxRecDepth 16384

noncomputable section

namespace Cert.Proof.Run

open Cert.KernelIdeal Cert.KernelIdeal.Gen
open Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "wV" => (Memref.whole Cert.KernelIdeal.main_v2_scv : Memref Cert.KernelIdeal.sig Kind.scVector Space.hbm Cert.KernelIdeal.S416 EltTy.i32)
local notation "kV" => (Memref.whole Cert.KernelIdeal.main_v3_scv : Memref Cert.KernelIdeal.sig Kind.scVector Space.hbm Cert.KernelIdeal.S4096 EltTy.f32)
local notation "mV" => (Memref.whole Cert.KernelIdeal.cc0_scratch0 : Memref Cert.KernelIdeal.sig Kind.scVector Space.vmem Cert.KernelIdeal.S4096 EltTy.f32)
local notation "iV" => (Memref.whole Cert.KernelIdeal.cc0_scratch1 : Memref Cert.KernelIdeal.sig Kind.scVector Space.vmem Cert.KernelIdeal.S416 EltTy.i32)

variable (d : Dev nD) (L : grid0.Coords)

/-- The weakest precondition of a program of tile `L`. -/
abbrev tileWp {α : Type} (p : Prog (TpuEff nD τ sig (Elt F) Λ₀ (tile d L).2) α) (Q : α → sProp 𝕄) : sProp 𝕄 :=
  wp frame (wpE (defs₀ (F := F)) 𝒱₀ (tile d L) none) Set.univ p Q

/-! ## Steps of any program -/

/-- A program that has returned meets its postcondition. -/
theorem pure_step {α : Type} {G : sProp 𝕄} {v : α} {Q : α → sProp 𝕄} (h : G ⊢ Q v) : G ⊢ tileWp d L (pure v) Q := by
  unfold tileWp; rw [wp_pure]; exact h.trans fupd_intro

/-- A program's first part is run to a value `v` and a state from which the rest is run. -/
theorem part_step {α β : Type} {G G' : sProp 𝕄} {p : Prog (TpuEff nD τ sig (Elt F) Λ₀ (tile d L).2) α} {v : α}
    {k : α → Prog (TpuEff nD τ sig (Elt F) Λ₀ (tile d L).2) β} {Q : β → sProp 𝕄}
    (hp : ∀ Φ : α → sProp 𝕄, (G' ⊢ Φ v) → (G ⊢ tileWp d L p Φ)) (h : G' ⊢ tileWp d L (k v) Q) : G ⊢ tileWp d L (p >>= k) Q := by
  unfold tileWp; rw [wp_bind]; exact hp _ h

/-- A check that holds is passed. -/
theorem assume_step {α : Type} {G : sProp 𝕄} {P : Prop} {dec : Decidable P} {k : PLift P → Prog (TpuEff nD τ sig (Elt F) Λ₀ (tile d L).2) α}
    {Q : α → sProp 𝕄} (hP : P) (h : G ⊢ tileWp d L (k ⟨hP⟩) Q) : G ⊢ tileWp d L (Prog.lift (TpuEff.assume P dec) >>= k) Q := by
  refine h.trans (Entails.of_eq ?_)
  exact (wp_assume_of 𝒱₀ (tile d L) none Set.univ hP).symm

/-! ## Filling the mask with ones -/

/-- The first `n` words of the mask scratch are ones. -/
def Filled (n : ℕ) : sProp 𝕄 := iprop(∃ f, ⌜∀ t : S4096.Idx, (t 0).val < n → f t = (oneE : F .f32)⌝ ∗ maskPts d L f)

/-- Ones written over the sixteen words from position `n` on: if the words below `n` were ones, the words below `n + 16` are. -/
theorem write_ones (f : S4096.Idx → Elt F .f32) (n : ℕ) (inb : ∀ a, (![n] : Fin 1 → ℕ) a + S16.size a ≤ S4096.size a)
    (hf : ∀ t : S4096.Idx, (t 0).val < n → f t = (oneE : F .f32)) (t : S4096.Idx) (ht : (t 0).val < n + 16) :
    ((mV).access (Rect.unit (s := S4096) ![n] S16.size inb)).write (Elt F) f (k0_pay1 (F := F)) Finset.univ t = (oneE : F .f32) := by
  have hr : ∀ g : S4096.Idx → Elt F .f32, (mV).view.read (Elt F) g t = g t := fun g => congrFun (View.read_whole cc0_scratch0 g) t
  by_cases hn : (t 0).val < n
  · rw [← hf t hn, ← hr f]
    refine (hr _).symm.trans (View.read_slice_write_of_not_mem (v := (mV).view) (Rect.unit (s := S4096) ![n] S16.size inb) f _ Finset.univ ?_)
    intro hm
    obtain ⟨x, -, hx⟩ := Finset.mem_map.mp hm
    have h0 := congrArg (fun y : S4096.Idx => (y 0).val) hx
    have h1 : ((Rect.unit (s := S4096) ![n] S16.size inb).emb x 0).val = n + 1 * (x 0).val := rfl
    simp only [h1] at h0
    omega
  · have hx : (Rect.unit (s := S4096) ![n] S16.size inb).emb (fun | 0 => ⟨(t 0).val - n, by show _ < 16; omega⟩) = t := by
      funext a
      match a with
      | 0 => apply Fin.ext; show n + 1 * ((t 0).val - n) = (t 0).val; omega
    rw [← hx]
    refine (hx ▸ hr _).symm.trans ?_
    exact View.read_slice_write_emb (v := (mV).view) (Rect.unit (s := S4096) ![n] S16.size inb) f _ (Finset.mem_univ _)

/-- One filling step: the sixteen words from position `n` on are read (the value unused) and overwritten with ones. -/
theorem fill_step {α : Type} {R : sProp 𝕄} {Q : α → sProp 𝕄} {n : ℕ} {inb inb' : ∀ a, (![n] : Fin 1 → ℕ) a + S16.size a ≤ S4096.size a}
    {hl hx hm} {k : PUnit → Prog (TpuEff nD τ sig (Elt F) Λ₀ (tile d L).2) α}
    (h : Filled (F := F) d L (n + 16) ∗ R ⊢ tileWp d L (k ⟨⟩) Q) :
    Filled (F := F) d L n ∗ R ⊢ tileWp d L (Prog.lift (.load mV (Rect.unit (s := S4096) ![n] S16.size inb).toLoadRect hl) >>= fun _ =>
      Prog.lift (.store mV (Rect.unit (s := S4096) ![n] S16.size inb') (k0_pay1 (F := F)) Finset.univ hx hm) >>= k) Q := by
  unfold tileWp Filled
  iintro ⟨⟨%f, %hf, H⟩, HR⟩
  iapply (wp_load 𝒱₀ (tile d L) none Set.univ (m := mV) (S := Finset.univ) (Finset.subset_univ _)) $$ H; iintro H
  iapply (wp_store 𝒱₀ (tile d L) none Set.univ (m := mV) (r := Rect.unit (s := S4096) ![n] S16.size inb') (Mk := Finset.univ) (S := Finset.univ) (Finset.subset_univ _)) $$ H; iintro H
  iapply (show _ ⊢ _ from h)
  isplitl [H]
  · unfold Filled
    iexists _; isplitr
    rotate_left
    · iexact H
    · ipureintro; exact write_ones f n inb' hf
  iexact HR

/-! ## Scattering zeros -/

/-- The mask scratch holds the mask after the first `n` words of `w`, the index scratch holds `w`. -/
def Held (w : S416.Idx → Elt F .i32) (n : ℕ) : sProp 𝕄 := iprop(maskPts d L (maskUpto (F := F) w n) ∗ idxPts d L w)

/-- Sixteen list words are read: they are the list's words from position `n` on. -/
theorem row_step {α : Type} {R : sProp 𝕄} {Q : α → sProp 𝕄} {w : S416.Idx → Elt F .i32} {m n : ℕ}
    {inb : ∀ a, (![n] : Fin 1 → ℕ) a + S16.size a ≤ S416.size a}
    {hl} {k : Vec F S16 .i32 → Prog (TpuEff nD τ sig (Elt F) Λ₀ (tile d L).2) α}
    (h : Held (F := F) d L w m ∗ R ⊢ tileWp d L (k (rowAt w n (inb 0))) Q) :
    Held (F := F) d L w m ∗ R ⊢ tileWp d L (Prog.lift (.load iV (Rect.unit (s := S416) ![n] S16.size inb).toLoadRect hl) >>= k) Q := by
  unfold tileWp Held
  iintro ⟨⟨H, Hi⟩, HR⟩
  iapply (wp_load 𝒱₀ (tile d L) none Set.univ (m := iV) (S := Finset.univ) (Finset.subset_univ _)) $$ Hi; iintro Hi
  rw [show (iV).view.readAt (Elt F) (Rect.unit (s := S416) ![n] S16.size inb).toLoadRect w = rowAt w n (inb 0) from by
    funext x
    show w _ = w _
    congr 1; funext a; match a with | 0 => apply Fin.ext; show n + 1 * (x 0).val = n + (x 0).val; omega]
  iapply (show _ ⊢ _ from h)
  unfold Held
  isplitl [H Hi]
  · isplitl [H]; · iexact H
    iexact Hi
  iexact HR

/-- Zeros are stored at the sixteen places the words from position `n` on name. -/
theorem scatter_step {α : Type} {R : sProp 𝕄} {Q : α → sProp 𝕄} {w : S416.Idx → Elt F .i32} {n : ℕ} {hn : n + 16 ≤ 416}
    {hb : ∀ a x, ((![rowAt w n hn] : Fin 1 → IVec S16 32) a x).toNat < S4096.size a}
    {hs} {k : PUnit → Prog (TpuEff nD τ sig (Elt F) Λ₀ (tile d L).2) α}
    (h : Held (F := F) d L w (n + 16) ∗ R ⊢ tileWp d L (k ⟨⟩) Q) :
    Held (F := F) d L w n ∗ R
      ⊢ tileWp d L (SparseCore.vectorStoreIdx mV ![rowAt w n hn] (k0_pay2 (F := F)) (fun _ => 1#1) false hb hs >>= k) Q := by
  unfold tileWp Held
  have hset : ((mV).access (.whole S4096)).set = Finset.univ := Memref.set_access_whole cc0_scratch0
  iintro ⟨⟨H, Hi⟩, HR⟩
  ihave H' := (Entails.of_eq (show (maskPts d L (maskUpto (F := F) w n) : sProp 𝕄)
      = (((mV).access (.whole S4096)).loc (tile d L) ↦[((mV).access (.whole S4096)).set]{fullShare} maskUpto (F := F) w n) by rw [hset])) $$ H
  iapply (SparseCore.wp_vectorStoreIdx 𝒱₀ (tile d L) none Set.univ (base := mV)) $$ H'; iintro H'
  iapply (show _ ⊢ _ from h)
  unfold Held
  isplitl [H' Hi]
  · isplitl [H']
    · have hread : ((mV).access (.whole S4096)).read (Elt F) (maskUpto (F := F) w n) = maskUpto w n := Memref.read_access_whole _ cc0_scratch0 _
      have hval : storeIdx (F := F) (((mV).access (.whole S4096)).read (Elt F) (maskUpto (F := F) w n)) ![rowAt w n hn] (k0_pay2 (F := F)) (fun _ => 1#1) false hb
          = maskUpto w (n + 16) := by rw [hread]; exact storeIdx_mask w n hn hb
      have key : ∀ (S : Finset S4096.Idx) (g : S4096.Idx → Elt F .f32), S = Finset.univ → g = maskUpto (F := F) w (n + 16) →
          (((mV).access (.whole S4096)).loc (tile d L) ↦[S]{fullShare} g : sProp 𝕄) = maskPts d L (maskUpto (F := F) w (n + 16)) := by
        rintro _ _ rfl rfl; rfl
      iapply (Entails.of_eq (key _ _ hset ((Memref.write_access_whole_univ (Elt F) cc0_scratch0 _ _).trans hval))) $$ H'
    iexact Hi
  iexact HR

/-! ## The parts -/

/-- From `G` the program `p` runs to the value `v` in `G'`. -/
def Runs {α : Type} (G G' : sProp 𝕄) (p : Prog (TpuEff nD τ sig (Elt F) Λ₀ (tile d L).2) α) (v : α) : Prop :=
  ∀ Φ : α → sProp 𝕄, (G' ⊢ Φ v) → (G ⊢ tileWp d L p Φ)

/-- Part 1 of the tile's program takes the ones from word 0 to word 304. -/
theorem part1 (G : sProp 𝕄) : Runs d L iprop(Filled (F := F) d L 0 ∗ G) iprop(Filled (F := F) d L 304 ∗ G)
    (k0_part1 L wV (Memref.isWhole_whole _) kV (Memref.isWhole_whole _) mV (Memref.isWhole_whole _) iV (Memref.isWhole_whole _) cc0_scoped0 cc0_scoped1) k0_pay1 := by
  rw [k0_part1_eq_skeleton]; intro Φ h; unfold k0_part1_skel
  iterate 19 apply fill_step
  exact pure_step d L h

/-- Part 2 of the tile's program takes the ones from word 304 to word 624. -/
theorem part2 (G : sProp 𝕄) : Runs d L iprop(Filled (F := F) d L 304 ∗ G) iprop(Filled (F := F) d L 624 ∗ G)
    (k0_part2 L wV (Memref.isWhole_whole _) kV (Memref.isWhole_whole _) mV (Memref.isWhole_whole _) iV (Memref.isWhole_whole _) cc0_scoped0 cc0_scoped1 (k0_pay1 (F := F))) ⟨⟩ := by
  rw [k0_part2_eq_skeleton]; intro Φ h; unfold k0_part2_skel
  iterate 20 apply fill_step
  exact pure_step d L h

/-- Part 3 of the tile's program takes the ones from word 624 to word 944. -/
theorem part3 (G : sProp 𝕄) : Runs d L iprop(Filled (F := F) d L 624 ∗ G) iprop(Filled (F := F) d L 944 ∗ G)
    (k0_part3 L wV (Memref.isWhole_whole _) kV (Memref.isWhole_whole _) mV (Memref.isWhole_whole _) iV (Memref.isWhole_whole _) cc0_scoped0 cc0_scoped1 (k0_pay1 (F := F))) ⟨⟩ := by
  rw [k0_part3_eq_skeleton]; intro Φ h; unfold k0_part3_skel
  iterate 20 apply fill_step
  exact pure_step d L h

/-- Part 4 of the tile's program takes the ones from word 944 to word 1264. -/
theorem part4 (G : sProp 𝕄) : Runs d L iprop(Filled (F := F) d L 944 ∗ G) iprop(Filled (F := F) d L 1264 ∗ G)
    (k0_part4 L wV (Memref.isWhole_whole _) kV (Memref.isWhole_whole _) mV (Memref.isWhole_whole _) iV (Memref.isWhole_whole _) cc0_scoped0 cc0_scoped1 (k0_pay1 (F := F))) ⟨⟩ := by
  rw [k0_part4_eq_skeleton]; intro Φ h; unfold k0_part4_skel
  iterate 20 apply fill_step
  exact pure_step d L h

/-- Part 5 of the tile's program takes the ones from word 1264 to word 1584. -/
theorem part5 (G : sProp 𝕄) : Runs d L iprop(Filled (F := F) d L 1264 ∗ G) iprop(Filled (F := F) d L 1584 ∗ G)
    (k0_part5 L wV (Memref.isWhole_whole _) kV (Memref.isWhole_whole _) mV (Memref.isWhole_whole _) iV (Memref.isWhole_whole _) cc0_scoped0 cc0_scoped1 (k0_pay1 (F := F))) ⟨⟩ := by
  rw [k0_part5_eq_skeleton]; intro Φ h; unfold k0_part5_skel
  iterate 20 apply fill_step
  exact pure_step d L h

/-- Part 6 of the tile's program takes the ones from word 1584 to word 1904. -/
theorem part6 (G : sProp 𝕄) : Runs d L iprop(Filled (F := F) d L 1584 ∗ G) iprop(Filled (F := F) d L 1904 ∗ G)
    (k0_part6 L wV (Memref.isWhole_whole _) kV (Memref.isWhole_whole _) mV (Memref.isWhole_whole _) iV (Memref.isWhole_whole _) cc0_scoped0 cc0_scoped1 (k0_pay1 (F := F))) ⟨⟩ := by
  rw [k0_part6_eq_skeleton]; intro Φ h; unfold k0_part6_skel
  iterate 20 apply fill_step
  exact pure_step d L h

/-- Part 7 of the tile's program takes the ones from word 1904 to word 2224. -/
theorem part7 (G : sProp 𝕄) : Runs d L iprop(Filled (F := F) d L 1904 ∗ G) iprop(Filled (F := F) d L 2224 ∗ G)
    (k0_part7 L wV (Memref.isWhole_whole _) kV (Memref.isWhole_whole _) mV (Memref.isWhole_whole _) iV (Memref.isWhole_whole _) cc0_scoped0 cc0_scoped1 (k0_pay1 (F := F))) ⟨⟩ := by
  rw [k0_part7_eq_skeleton]; intro Φ h; unfold k0_part7_skel
  iterate 20 apply fill_step
  exact pure_step d L h

/-- Part 8 of the tile's program takes the ones from word 2224 to word 2544. -/
theorem part8 (G : sProp 𝕄) : Runs d L iprop(Filled (F := F) d L 2224 ∗ G) iprop(Filled (F := F) d L 2544 ∗ G)
    (k0_part8 L wV (Memref.isWhole_whole _) kV (Memref.isWhole_whole _) mV (Memref.isWhole_whole _) iV (Memref.isWhole_whole _) cc0_scoped0 cc0_scoped1 (k0_pay1 (F := F))) ⟨⟩ := by
  rw [k0_part8_eq_skeleton]; intro Φ h; unfold k0_part8_skel
  iterate 20 apply fill_step
  exact pure_step d L h

/-- Part 9 of the tile's program takes the ones from word 2544 to word 2864. -/
theorem part9 (G : sProp 𝕄) : Runs d L iprop(Filled (F := F) d L 2544 ∗ G) iprop(Filled (F := F) d L 2864 ∗ G)
    (k0_part9 L wV (Memref.isWhole_whole _) kV (Memref.isWhole_whole _) mV (Memref.isWhole_whole _) iV (Memref.isWhole_whole _) cc0_scoped0 cc0_scoped1 (k0_pay1 (F := F))) ⟨⟩ := by
  rw [k0_part9_eq_skeleton]; intro Φ h; unfold k0_part9_skel
  iterate 20 apply fill_step
  exact pure_step d L h

/-- Part 10 of the tile's program takes the ones from word 2864 to word 3184. -/
theorem part10 (G : sProp 𝕄) : Runs d L iprop(Filled (F := F) d L 2864 ∗ G) iprop(Filled (F := F) d L 3184 ∗ G)
    (k0_part10 L wV (Memref.isWhole_whole _) kV (Memref.isWhole_whole _) mV (Memref.isWhole_whole _) iV (Memref.isWhole_whole _) cc0_scoped0 cc0_scoped1 (k0_pay1 (F := F))) ⟨⟩ := by
  rw [k0_part10_eq_skeleton]; intro Φ h; unfold k0_part10_skel
  iterate 20 apply fill_step
  exact pure_step d L h

/-- Part 11 of the tile's program takes the ones from word 3184 to word 3504. -/
theorem part11 (G : sProp 𝕄) : Runs d L iprop(Filled (F := F) d L 3184 ∗ G) iprop(Filled (F := F) d L 3504 ∗ G)
    (k0_part11 L wV (Memref.isWhole_whole _) kV (Memref.isWhole_whole _) mV (Memref.isWhole_whole _) iV (Memref.isWhole_whole _) cc0_scoped0 cc0_scoped1 (k0_pay1 (F := F))) ⟨⟩ := by
  rw [k0_part11_eq_skeleton]; intro Φ h; unfold k0_part11_skel
  iterate 20 apply fill_step
  exact pure_step d L h

/-- Part 12 of the tile's program takes the ones from word 3504 to word 3824. -/
theorem part12 (G : sProp 𝕄) : Runs d L iprop(Filled (F := F) d L 3504 ∗ G) iprop(Filled (F := F) d L 3824 ∗ G)
    (k0_part12 L wV (Memref.isWhole_whole _) kV (Memref.isWhole_whole _) mV (Memref.isWhole_whole _) iV (Memref.isWhole_whole _) cc0_scoped0 cc0_scoped1 (k0_pay1 (F := F))) ⟨⟩ := by
  rw [k0_part12_eq_skeleton]; intro Φ h; unfold k0_part12_skel
  iterate 20 apply fill_step
  exact pure_step d L h

/-- The words every check of the program asks for are in range when every word of the list is. -/
theorem row_inb (w : S416.Idx → BitVec 32) (hw : ∀ j, (w j).toNat < 4096) (n : ℕ) (h : n + 16 ≤ 416) :
    ∀ a x, ((![rowAt w n h] : Fin 1 → IVec S16 32) a x).toNat < S4096.size a := by
  intro a x
  match a with | 0 => exact hw _

/-- Part 14 of the tile's program stores the zeros of the words from 16 to 256 and reads the row at 256. -/
theorem part14 (G : sProp 𝕄) (w : S416.Idx → BitVec 32) (hw : ∀ j, (w j).toNat < 4096) (hc : k0_cond1 L = 1#1) :
    Runs d L iprop(Held (F := F) d L w 16 ∗ G) iprop(Held (F := F) d L w 256 ∗ G)
      (k0_part14 L wV (Memref.isWhole_whole _) kV (Memref.isWhole_whole _) mV (Memref.isWhole_whole _) iV (Memref.isWhole_whole _) cc0_scoped0 cc0_scoped1 hc (k0_pay2 (F := F)) (rowAt w 16 (by omega))) (rowAt w 256 (by omega)) := by
  rw [k0_part14_eq_skeleton]; intro Φ h; unfold k0_part14_skel
  iterate 15 (refine assume_step d L (fun _ => row_inb w hw _ _) ?_; apply scatter_step; apply row_step)
  exact pure_step d L h

end Cert.Proof.Run
-- ==== Proof.Tile.lean ====
/-
  One tile's whole task. The tile at coordinates (0, 0) fills its mask scratch with ones, fetches the padded index list,
  scatters zeros at the places the list names and writes the mask out; every other tile returns at once.
-/
module

public import proofs.«01_k».proof.Proof.Fill

@[expose] public section

set_option maxRecDepth 16384

noncomputable section

namespace Cert.Proof.Run

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "wV" => (Memref.whole Cert.KernelIdeal.main_v2_scv : Memref Cert.KernelIdeal.sig Kind.scVector Space.hbm Cert.KernelIdeal.S416 EltTy.i32)
local notation "kV" => (Memref.whole Cert.KernelIdeal.main_v3_scv : Memref Cert.KernelIdeal.sig Kind.scVector Space.hbm Cert.KernelIdeal.S4096 EltTy.f32)
local notation "mV" => (Memref.whole Cert.KernelIdeal.cc0_scratch0 : Memref Cert.KernelIdeal.sig Kind.scVector Space.vmem Cert.KernelIdeal.S4096 EltTy.f32)
local notation "iV" => (Memref.whole Cert.KernelIdeal.cc0_scratch1 : Memref Cert.KernelIdeal.sig Kind.scVector Space.vmem Cert.KernelIdeal.S416 EltTy.i32)

variable (d : Dev nD) (L : grid0.Coords)

/-- The cell the fetch of the list completes on, and the cell the write-out of the mask completes on. -/
abbrev inCell : GSem nD τ sig := (tile d L, .dma cc0_scoped0.sem)
abbrev outCell : GSem nD τ sig := (tile d L, .dma cc0_scoped1.sem)

/-- The list in HBM holds `w`; the mask in HBM holds `f`. -/
abbrev wPts (w : S416.Idx → Elt F .i32) : sProp 𝕄 := wLoc d ↦{fullShare} w
abbrev kPts (f : S4096.Idx → Elt F .f32) : sProp 𝕄 := kLoc d ↦{fullShare} f

/-- The list is fetched into the index scratch: the transfer and its wait. -/
theorem fetch_step {α : Type} (G : sProp 𝕄) {Q : α → sProp 𝕄} (w : S416.Idx → Elt F .i32)
    (fs : S416.Idx → Elt F .i32)
    (O : CellTallies nD τ sig (HIx 1)) (W : Waits sig (HIx 1)) (hO : ∀ g, O g none = 0)
    {h1 h2 h3 h4 h5} {k : PUnit → Prog (TpuEff nD τ sig (Elt F) Λ₀ (tile d L).2) α}
    (h : iprop(levAts (K (F := F)).L (K (F := F)).lev ∗ wPts d w ∗ idxPts d L w ∗ semVal (inCell d L) 0 ∗ owes (tile d L) O (insert (SemLoc.dma cc0_scoped0.sem, none) W)) ∗ G
      ⊢ tileWp d L (k ⟨⟩) Q) :
    iprop(levAts (K (F := F)).L (K (F := F)).lev ∗ wPts d w ∗ idxPts d L fs ∗ semVal (inCell d L) 0 ∗ owes (tile d L) O W) ∗ G
      ⊢ tileWp d L (Prog.lift (.enqueueDma wV (.here iV) (.dma cc0_scoped0.sem) h1 h2 h3) >>= fun _ =>
          Prog.lift (.waitDma2 cc0_scoped0.sem wV iV h4 h5) >>= k) Q := by
  change _ ⊢ wp frame (wpE (defs₀ (F := F)) 𝒱₀ (tile d L) none) Set.univ
    (.op (.enqueueDma wV (.here iV) (.dma cc0_scoped0.sem) h1 h2 h3) fun _ => .op (.waitDma2 cc0_scoped0.sem wV iV h4 h5) k) Q
  iintro ⟨⟨#Hlv, Hw, Hi, Hs, HO⟩, HG⟩
  ihave Hmw := (show levAts (K (F := F)).L (K (F := F)).lev ⊢ Transfers.MayWaits (tile d L) (default : HIx 1) O from
    (K (F := F)).mayWaits_none (thr := tile d L) hO) $$ Hlv
  ihave Hw' := (Entails.of_eq (show (wPts d w : sProp 𝕄) = ((wV).view.loc (tile d L) ↦{fullShare} w) from rfl)) $$ Hw
  ihave Hi' := (Entails.of_eq (show (idxPts d L fs : sProp 𝕄) = ((iV).view.loc (tile d L) ↦{fullShare} fs) from rfl)) $$ Hi
  sl_exec
  iapply (show _ ⊢ _ from h)
  isplitr [HG]
  · isplitr; · iexact Hlv
    isplitl [Hw']; · iexact Hw'
    isplitl [Hi']
    · iapply (Entails.of_eq (congrArg (fun g => (idxPts d L g : sProp 𝕄)) (View.write_whole_univ (Val := Elt F) cc0_scratch1 fs (fetch_step.sl.dma0 w)))) $$ Hi'
    isplitl [Hs]; · iexact Hs
    iexact HO
  iexact HG

/-- The mask is written out of the mask scratch: the transfer and its wait. -/
theorem out_step {α : Type} (G : sProp 𝕄) {Q : α → sProp 𝕄} (f f₀ : S4096.Idx → Elt F .f32)
    (O : CellTallies nD τ sig (HIx 1)) (W : Waits sig (HIx 1)) (hO : ∀ g, O g none = 0)
    {h1 h2 h3 h4 h5} {k : PUnit → Prog (TpuEff nD τ sig (Elt F) Λ₀ (tile d L).2) α}
    (h : iprop(kPts d f ∗ maskPts d L f ∗ semVal (outCell d L) 0 ∗ owes (tile d L) O (insert (SemLoc.dma cc0_scoped1.sem, none) W)) ∗ G
      ⊢ tileWp d L (k ⟨⟩) Q) :
    iprop(levAts (K (F := F)).L (K (F := F)).lev ∗ kPts d f₀ ∗ maskPts d L f ∗ semVal (outCell d L) 0 ∗ owes (tile d L) O W) ∗ G
      ⊢ tileWp d L (Prog.lift (.enqueueDma mV (.here kV) (.dma cc0_scoped1.sem) h1 h2 h3) >>= fun _ =>
          Prog.lift (.waitDma2 cc0_scoped1.sem mV kV h4 h5) >>= k) Q := by
  change _ ⊢ wp frame (wpE (defs₀ (F := F)) 𝒱₀ (tile d L) none) Set.univ
    (.op (.enqueueDma mV (.here kV) (.dma cc0_scoped1.sem) h1 h2 h3) fun _ => .op (.waitDma2 cc0_scoped1.sem mV kV h4 h5) k) Q
  iintro ⟨⟨#Hlv, Hk, Hm, Hs, HO⟩, HG⟩
  ihave Hmw := (show levAts (K (F := F)).L (K (F := F)).lev ⊢ Transfers.MayWaits (tile d L) (default : HIx 1) O from
    (K (F := F)).mayWaits_none (thr := tile d L) hO) $$ Hlv
  ihave Hk' := (Entails.of_eq (show (kPts d f₀ : sProp 𝕄) = ((kV).view.loc (tile d L) ↦{fullShare} f₀) from rfl)) $$ Hk
  ihave Hm' := (Entails.of_eq (show (maskPts d L f : sProp 𝕄) = ((mV).view.loc (tile d L) ↦{fullShare} f) from rfl)) $$ Hm
  sl_exec
  iapply (show _ ⊢ _ from h)
  isplitr [HG]
  · isplitl [Hk']
    · iapply (Entails.of_eq (congrArg (fun g => (kPts d g : sProp 𝕄)) (View.write_whole_univ (Val := Elt F) main_v3_scv f₀ (out_step.sl.dma0 f)))) $$ Hk'
    isplitl [Hm']; · iexact Hm'
    isplitl [Hs]; · iexact Hs
    iexact HO
  iexact HG

/-- A mask scratch all of whose words are ones holds the mask of no word. -/
theorem held_zero (w : S416.Idx → Elt F .i32) : Filled (F := F) d L 4096 ⊢ (maskPts d L (maskUpto (F := F) w 0) : sProp 𝕄) := by
  unfold Filled
  iintro ⟨%f, %hf, H⟩
  iapply (Entails.of_eq (congrArg (fun g => (maskPts d L g : sProp 𝕄)) (maskUpto_zero w f hf))) $$ H

/-- Part 13 of the tile's program finishes the ones, fetches the list, and stores the zeros of its first sixteen words. -/
theorem part13 (G : sProp 𝕄) (w : S416.Idx → BitVec 32) (hw : ∀ j, (w j).toNat < 4096) (hc : k0_cond1 L = 1#1) (fs : S416.Idx → Elt F .i32)
    (O : CellTallies nD τ sig (HIx 1)) (W : Waits sig (HIx 1)) (hO : ∀ g, O g none = 0) :
    Runs d L
      iprop(Filled (F := F) d L 3824 ∗ (levAts (K (F := F)).L (K (F := F)).lev ∗ wPts d w ∗ idxPts d L fs ∗ semVal (inCell d L) 0 ∗ owes (tile d L) O W) ∗ G)
      iprop(Held (F := F) d L w 16 ∗ (levAts (K (F := F)).L (K (F := F)).lev ∗ wPts d w ∗ semVal (inCell d L) 0
        ∗ owes (tile d L) O (insert (SemLoc.dma cc0_scoped0.sem, none) W)) ∗ G)
      (k0_part13 L wV (Memref.isWhole_whole _) kV (Memref.isWhole_whole _) mV (Memref.isWhole_whole _) iV (Memref.isWhole_whole _) cc0_scoped0 cc0_scoped1 hc (k0_pay1 (F := F))) ⟨k0_pay2, rowAt w 16 (by omega)⟩ := by
  rw [k0_part13_eq_skeleton]; intro Φ h; unfold k0_part13_skel
  iterate 17 apply fill_step
  have swap1 : ∀ A B C : sProp 𝕄, iprop(A ∗ B ∗ C) ⊢ iprop(B ∗ A ∗ C) := fun A B C => by
    iintro ⟨HA, HB, HC⟩
    isplitl [HB]; · iexact HB
    isplitl [HA]; · iexact HA
    iexact HC
  refine (swap1 _ _ _).trans (fetch_step d L _ w fs O W hO ?_)
  have toHeld : iprop((levAts (K (F := F)).L (K (F := F)).lev ∗ wPts d w ∗ idxPts d L w ∗ semVal (inCell d L) 0
        ∗ owes (tile d L) O (insert (SemLoc.dma cc0_scoped0.sem, none) W)) ∗ Filled (F := F) d L 4096 ∗ G)
      ⊢ iprop(Held (F := F) d L w 0 ∗ (levAts (K (F := F)).L (K (F := F)).lev ∗ wPts d w ∗ semVal (inCell d L) 0
        ∗ owes (tile d L) O (insert (SemLoc.dma cc0_scoped0.sem, none) W)) ∗ G) := by
    unfold Held
    iintro ⟨⟨#Hlv, Hw, Hi, Hs, HO⟩, HF, HG⟩
    ihave Hm := (held_zero d L w) $$ HF
    isplitl [Hm Hi]
    · isplitl [Hm]; · iexact Hm
      iexact Hi
    isplitr [HG]
    · isplitr; · iexact Hlv
      isplitl [Hw]; · iexact Hw
      isplitl [Hs]; · iexact Hs
      iexact HO
    iexact HG
  refine toHeld.trans ?_
  apply row_step
  refine assume_step d L (fun _ => row_inb w hw _ _) ?_
  apply scatter_step
  apply row_step
  exact pure_step d L h

/-- The whole task of the tile whose condition holds, from the cells and buffers it touches. -/
theorem tile_run {Q : PUnit → sProp 𝕄} (G : sProp 𝕄) (w : S416.Idx → BitVec 32) (hw : ∀ j, (w j).toNat < 4096) (hc : k0_cond1 L = 1#1)
    (f₀ fm : S4096.Idx → Elt F .f32) (fs : S416.Idx → Elt F .i32)
    (O : CellTallies nD τ sig (HIx 1)) (W : Waits sig (HIx 1)) (hO : ∀ g, O g none = 0)
    (h : iprop(wPts d w ∗ kPts d (maskUpto (F := F) w 416) ∗ maskPts d L (maskUpto (F := F) w 416) ∗ idxPts d L w ∗ semVal (inCell d L) 0
        ∗ semVal (outCell d L) 0 ∗ owes (tile d L) O (insert (SemLoc.dma cc0_scoped1.sem, none) (insert (SemLoc.dma cc0_scoped0.sem, none) W)) ∗ G)
      ⊢ Q ⟨⟩) :
    iprop(levAts (K (F := F)).L (K (F := F)).lev ∗ wPts d w ∗ kPts d f₀ ∗ maskPts d L fm ∗ idxPts d L fs ∗ semVal (inCell d L) 0
        ∗ semVal (outCell d L) 0 ∗ owes (tile d L) O W ∗ G)
      ⊢ tileWp d L (cc0_build L wV (Memref.isWhole_whole _) kV (Memref.isWhole_whole _) mV (Memref.isWhole_whole _) iV (Memref.isWhole_whole _) cc0_scoped0 cc0_scoped1) Q := by
  rw [cc0_build_eq_skeleton]; unfold cc0_build_skel
  rw [dif_pos hc]
  have start : iprop(levAts (K (F := F)).L (K (F := F)).lev ∗ wPts d w ∗ kPts d f₀ ∗ maskPts d L fm ∗ idxPts d L fs ∗ semVal (inCell d L) 0
        ∗ semVal (outCell d L) 0 ∗ owes (tile d L) O W ∗ G)
      ⊢ iprop(Filled (F := F) d L 0 ∗ (levAts (K (F := F)).L (K (F := F)).lev ∗ wPts d w ∗ idxPts d L fs ∗ semVal (inCell d L) 0 ∗ owes (tile d L) O W)
          ∗ kPts d f₀ ∗ semVal (outCell d L) 0 ∗ G) := by
    unfold Filled
    iintro ⟨#Hlv, Hw, Hk, Hm, Hi, Hs, Ht, HO, HG⟩
    isplitl [Hm]
    · iexists fm; isplitr
      rotate_left
      · iexact Hm
      · ipureintro; intro t ht; exact absurd ht (Nat.not_lt_zero _)
    isplitl [Hw Hi Hs HO]
    · isplitr; · iexact Hlv
      isplitl [Hw]; · iexact Hw
      isplitl [Hi]; · iexact Hi
      isplitl [Hs]; · iexact Hs
      iexact HO
    isplitl [Hk]; · iexact Hk
    isplitl [Ht]; · iexact Ht
    iexact HG
  refine start.trans ?_
  refine part_step d L (part1 d L _) ?_
  refine part_step d L (part2 d L _) ?_
  refine part_step d L (part3 d L _) ?_
  refine part_step d L (part4 d L _) ?_
  refine part_step d L (part5 d L _) ?_
  refine part_step d L (part6 d L _) ?_
  refine part_step d L (part7 d L _) ?_
  refine part_step d L (part8 d L _) ?_
  refine part_step d L (part9 d L _) ?_
  refine part_step d L (part10 d L _) ?_
  refine part_step d L (part11 d L _) ?_
  refine part_step d L (part12 d L _) ?_
  refine part_step d L (part13 d L _ w hw hc fs O W hO) ?_
  refine part_step d L (part14 d L _ w hw hc) ?_
  iterate 9 (refine assume_step d L (fun _ => row_inb w hw _ _) ?_; apply scatter_step; apply row_step)
  refine assume_step d L (fun _ => row_inb w hw _ _) ?_; apply scatter_step
  have toOut : iprop(Held (F := F) d L w 416 ∗ (levAts (K (F := F)).L (K (F := F)).lev ∗ wPts d w ∗ semVal (inCell d L) 0
        ∗ owes (tile d L) O (insert (SemLoc.dma cc0_scoped0.sem, none) W)) ∗ kPts d f₀ ∗ semVal (outCell d L) 0 ∗ G)
      ⊢ iprop((levAts (K (F := F)).L (K (F := F)).lev ∗ kPts d f₀ ∗ maskPts d L (maskUpto (F := F) w 416) ∗ semVal (outCell d L) 0
          ∗ owes (tile d L) O (insert (SemLoc.dma cc0_scoped0.sem, none) W)) ∗ wPts d w ∗ idxPts d L w ∗ semVal (inCell d L) 0 ∗ G) := by
    unfold Held
    iintro ⟨⟨Hm, Hi⟩, ⟨#Hlv, Hw, Hs, HO⟩, Hk, Ht, HG⟩
    isplitl [Hk Hm Ht HO]
    · isplitr; · iexact Hlv
      isplitl [Hk]; · iexact Hk
      isplitl [Hm]; · iexact Hm
      isplitl [Ht]; · iexact Ht
      iexact HO
    isplitl [Hw]; · iexact Hw
    isplitl [Hi]; · iexact Hi
    isplitl [Hs]; · iexact Hs
    iexact HG
  refine toOut.trans (out_step d L _ _ f₀ O _ hO ?_)
  refine pure_step d L ?_
  refine BIBase.Entails.trans ?_ h
  iintro ⟨⟨Hk, Hm, Ht, HO⟩, Hw, Hi, Hs, HG⟩
  isplitl [Hw]; · iexact Hw
  isplitl [Hk]; · iexact Hk
  isplitl [Hm]; · iexact Hm
  isplitl [Hi]; · iexact Hi
  isplitl [Hs]; · iexact Hs
  isplitl [Ht]; · iexact Ht
  isplitl [HO]; · iexact HO
  iexact HG

end Cert.Proof.Run
-- ==== Proof.Pad.lean ====
/-
  The padded index list: the 409 indices, then the first of them seven times more. It names exactly the places the
  indices name.
-/
module

public import proofs.«01_k».proof.Proof.Setup
public import Idealize.ShloMosaic.Lib.Pipeline.Value

@[expose] public section

noncomputable section

namespace Cert.Proof.Run

open Cert.KernelIdeal Cert.KernelIdeal.Gen
open Cert.Proof.Spec
open Idealize.ShloMosaic

/-- The padded list of `idx`. -/
def padded (idx : S409.Idx → BitVec 32) : S416.Idx → BitVec 32 :=
  concatenate S416 0 [⟨S409, idx⟩, ⟨S7, broadcastInDim S7 ![0] bcast_S1_S7_0 (extractStridedSlice S1 ![0] idx slices_S409_S1_0)⟩]
    concatenates_S409_S7_S416_d0

/-- Every entry of the padded list is one of the indices. -/
theorem padded_mem (idx : S409.Idx → BitVec 32) (j : S416.Idx) : ∃ i, padded idx j = idx i := by
  unfold padded
  have hj : (j 0).val < 416 := (j 0).isLt
  by_cases h : (j 0).val < 409
  · exact ⟨fun | 0 => ⟨(j 0).val, h⟩, concatenate_pair_apply_left (t := S416) (s₁ := S409) (s₂ := S7) 0 _ _ _ j rfl _ fun | 0 => rfl⟩
  · refine ⟨_, (concatenate_pair_apply_right (t := S416) (s₁ := S409) (s₂ := S7) 0 _ _ concatenates_S409_S7_S416_d0 j rfl rfl
      (fun | 0 => ⟨(j 0).val - 409, by show (j 0).val - 409 < 7; omega⟩) (fun | 0 => fun hb => absurd rfl hb)
      (by show (j 0).val - 409 + 409 = (j 0).val; omega)).trans rfl⟩

/-- Every index is an entry of the padded list. -/
theorem mem_padded (idx : S409.Idx → BitVec 32) (i : S409.Idx) : ∃ j, padded idx j = idx i := by
  have hi : (i 0).val < 409 := (i 0).isLt
  refine ⟨fun | 0 => ⟨(i 0).val, by show (i 0).val < 416; omega⟩, ?_⟩
  unfold padded
  exact concatenate_pair_apply_left (t := S416) (s₁ := S409) (s₂ := S7) 0 _ _ _ _ rfl i fun | 0 => rfl

/-- The padded list names a place exactly if one of the indices is that place. -/
theorem named_padded (idx : S409.Idx → BitVec 32) (t : ℕ) : Named (padded idx) 416 t ↔ ∃ i, (idx i).toNat = t := by
  constructor
  · rintro ⟨j, -, h⟩
    obtain ⟨i, e⟩ := padded_mem idx j
    exact ⟨i, e ▸ h⟩
  · rintro ⟨i, h⟩
    obtain ⟨j, e⟩ := mem_padded idx i
    exact ⟨j, (j 0).isLt, e ▸ h⟩

/-- If every index is below 4096, so is every entry of the padded list. -/
theorem padded_lt (idx : S409.Idx → BitVec 32) (h : ∀ i, (idx i).toNat < 4096) (j : S416.Idx) : (padded idx j).toNat < 4096 := by
  obtain ⟨i, e⟩ := padded_mem idx j
  rw [e]; exact h i

end Cert.Proof.Run

end
-- ==== Proof.Task.lean ====
/-
  The SparseCore call as the launch sees it: what it is handed and gives back, each tile's obligation, and how the
  call's resources are dealt to the tiles. The tile at the origin takes everything; the others take nothing.
-/
module

public import proofs.«01_k».proof.Proof.Tile
public import proofs.«01_k».proof.Proof.Pad

@[expose] public section

set_option maxRecDepth 16384

noncomputable section

namespace Cert.Proof.Run

open Cert.KernelIdeal Cert.KernelIdeal.Gen
open Cert.Proof.Spec

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "wV" => (Memref.whole Cert.KernelIdeal.main_v2_scv : Memref Cert.KernelIdeal.sig Kind.scVector Space.hbm Cert.KernelIdeal.S416 EltTy.i32)
local notation "kV" => (Memref.whole Cert.KernelIdeal.main_v3_scv : Memref Cert.KernelIdeal.sig Kind.scVector Space.hbm Cert.KernelIdeal.S4096 EltTy.f32)
local notation "mV" => (Memref.whole Cert.KernelIdeal.cc0_scratch0 : Memref Cert.KernelIdeal.sig Kind.scVector Space.vmem Cert.KernelIdeal.S4096 EltTy.f32)
local notation "iV" => (Memref.whole Cert.KernelIdeal.cc0_scratch1 : Memref Cert.KernelIdeal.sig Kind.scVector Space.vmem Cert.KernelIdeal.S416 EltTy.i32)

/-! ## A resource that sits with number 0 alone -/

/-- `A` at number 0, nothing at any other. -/
def atZero (n : ℕ) (A : sProp 𝕄) : sProp 𝕄 := if n = 0 then A else iprop(emp)

theorem atZero_zero (A : sProp 𝕄) : atZero 0 A = A := if_pos rfl
theorem atZero_of_ne {n : ℕ} (h : n ≠ 0) (A : sProp 𝕄) : atZero n A = iprop(emp) := if_neg h

instance atZero_storable (n : ℕ) (A : sProp 𝕄) [BI.Storable (upEmb : UEmb _ 𝕄) A] : BI.Storable (upEmb : UEmb _ 𝕄) (atZero n A) := by
  unfold atZero; split <;> infer_instance

/-- Dealt over `n + 1` numbers, it is the resource itself. -/
theorem bigSep_atZero (n : ℕ) (A : sProp 𝕄) : (bigSep Finset.univ fun i : Fin (n + 1) => atZero i.val A) = A := by
  rw [SparseCore.bigSep_erase' (Finset.mem_univ (0 : Fin (n + 1)))]
  rw [bigSep_congr (s := Finset.univ.erase (0 : Fin (n + 1))) (Ψ := fun _ => iprop(emp)) fun i hi =>
    atZero_of_ne (fun h => Finset.ne_of_mem_erase hi (Fin.ext h)) A,
    show (bigSep (Finset.univ.erase (0 : Fin (n + 1))) fun _ => iprop(emp)) = (iprop(emp) : sProp 𝕄) from bigSep_emp_const _]
  exact (equiv_iff.mp BI.sep_emp).trans (atZero_zero A)

/-! ## What the call takes and gives back -/

variable (m : (ℓ : Loc nD τ sig) → Buf (Elt F) ℓ)

/-- The padded index list of the launch memory. -/
abbrev listW (d : Dev nD) : S416.Idx → BitVec 32 := padded (m (iLoc d))
/-- The mask it leads to. -/
abbrev maskK (d : Dev nD) : S4096.Idx → Elt F .f32 := maskUpto (F := F) (listW m d) 416

/-- The call's operands: the list, and the mask's buffer as launched. -/
abbrev operands (d : Dev nD) : sProp 𝕄 := iprop(wPts d (listW m d) ∗ kPts d (m (kLoc d)))
/-- The call's results: the list, and the mask. -/
abbrev results (d : Dev nD) : sProp 𝕄 := iprop(wPts d (listW m d) ∗ kPts d (maskK m d))

/-- SparseCore 0 takes the operands and passes them to its tile 0, which gives the results back. -/
def P : (K (F := F)).Pay (nD := nD) (Val := Elt F) (Name := ℕ) (U := UU) where
  st := fun _ d c => atZero c.val (operands m d)
  dn := fun _ d c => atZero c.val (results m d)
  go := fun _ d c i => atZero i.val (atZero c.val (operands m d))
  td := fun _ d c i => atZero i.val (atZero c.val (results m d))
  x := fun _ _ => iprop(emp)

instance P_storable : (P (F := F) m).IsStorable where
  st _ d c := (inferInstance : BI.Storable (upEmb : UEmb _ 𝕄) (atZero c.val (operands m d)))
  dn _ d c := (inferInstance : BI.Storable (upEmb : UEmb _ 𝕄) (atZero c.val (results m d)))
  go _ d c i := (inferInstance : BI.Storable (upEmb : UEmb _ 𝕄) (atZero i.val (atZero c.val (operands m d))))
  td _ d c i := (inferInstance : BI.Storable (upEmb : UEmb _ 𝕄) (atZero i.val (atZero c.val (results m d))))

/-- What the proof asks of the launch memory: every index is below 4096. -/
def PreOK : Prop := ∀ (d : Dev nD) (j : S409.Idx), (m (iLoc d) j).toNat < 4096

theorem st_all (d : Dev nD) : (bigSep Finset.univ fun c : Fin ((K (F := F)).nCore 0) => (P m).st 0 d c) = operands m d := bigSep_atZero 1 _
theorem dn_all (d : Dev nD) : (bigSep Finset.univ fun c : Fin ((K (F := F)).nCore 0) => (P m).dn 0 d c) = results m d := bigSep_atZero 1 _

/-- A SparseCore deals what it takes to its tiles, and gathers what they give back. -/
theorem vecSplit : (K (F := F)).VecSplit' (P m) 0 := by
  intro d c
  show atZero c.val (operands m d) ⊢ |={Set.univ}=> iprop(
      (bigSep Finset.univ fun i : Fin (15 + 1) => atZero i.val (atZero c.val (operands m d)))
      ∗ ((bigSep Finset.univ fun i : Fin (15 + 1) => atZero i.val (atZero c.val (results m d))) -∗ atZero c.val (results m d)))
  rw [bigSep_atZero, bigSep_atZero]
  iintro H; imodintro
  isplitl [H]; · iexact H
  iintro H; iexact H

/-! ## The tile's obligation -/

section Tile

variable (d : Dev nD) (L : grid0.Coords)

/-- The body's condition holds exactly at the origin. -/
theorem cond_iff : k0_cond1 L = 1#1 ↔ (L 1).val = 0 ∧ (L 0).val = 0 := by
  have h : ∀ (a : Fin 2) (b : Fin 16), k0_cond1 (fun | 0 => a | 1 => b | ⟨_ + 2, h⟩ => absurd h (Nat.not_lt.2 (Nat.le_add_left _ _))) = 1#1 ↔ b.val = 0 ∧ a.val = 0 := by
    decide +kernel
  have e : L = (fun | 0 => L 0 | 1 => L 1 | ⟨_ + 2, h⟩ => absurd h (Nat.not_lt.2 (Nat.le_add_left _ _))) :=
    funext fun | 0 => rfl | 1 => rfl | ⟨_ + 2, h⟩ => absurd h (Nat.not_lt.2 (Nat.le_add_left _ _))
  rw [e]; exact h (L 0) (L 1)

/-- The tile's own cells at zero: the two its transfers complete on, and the rest. -/
theorem cells_V : (ownSems0 (tile d L) : sProp 𝕄)
    = iprop(semVal (inCell d L) 0 ∗ semVal (outCell d L) 0
        ∗ bigSep (((ownCells (tile d L)).erase (inCell d L)).erase (outCell d L)) fun g => semVal g 0) := by
  unfold SparseCore.Cfg.ownSems0
  rw [SparseCore.bigSep_erase' ((mem_ownCells (g := inCell d L)).mpr ⟨rfl, by
      show (SemLoc.dma cc0_scoped0.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped1.sem : SemLoc sig).isScoped .scVector = true; decide⟩⟩)]

/-- The tile's own buffers: its two scratch buffers, at some contents, and the rest. -/
theorem bufs_V : (ownBufs (tile d L) : sProp 𝕄)
    = iprop((∃ f, maskPts d L f) ∗ (∃ g, idxPts d L g)
        ∗ bigSep (((ownRefs (τ := τ) (.scVector (cV L) (jV L))).erase ((Proc.scVector (cV L) (jV L)).devRef cc0_scratch0)).erase
            ((Proc.scVector (cV L) (jV L)).devRef cc0_scratch1)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]
  rfl

/-- A tile's whole body, from what it is handed to what it gives back: the run at the origin, an immediate return
    elsewhere. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ atZero (L 1).val (atZero (L 0).val (operands m d))
        ∗ scopedBufs (tile d L) ∗ scopedSems0 (tile d L) ∗ owes (tile d L) O W)
      ⊢ tileWp d L (cc0_build L wV (Memref.isWhole_whole _) kV (Memref.isWhole_whole _) mV (Memref.isWhole_whole _) iV (Memref.isWhole_whole _) cc0_scoped0 cc0_scoped1)
          fun _ => iprop(atZero (L 1).val (atZero (L 0).val (results m d)) ∗ scopedBufs (tile d L) ∗ scopedSems0 (tile d L)
            ∗ ∃ W', ⌜∀ p ∈ W', p ∈ W ∨ p.2 = none⌝ ∗ owes (tile d L) O W') := by
  by_cases hc : k0_cond1 L = 1#1
  · obtain ⟨h1, h0⟩ := (cond_iff L).mp hc
    rw [h1, h0, atZero_zero, atZero_zero, atZero_zero, atZero_zero]
    rw [(K (F := F)).scopedBufs_V hF d (cV L) (jV L), SparseCore.Cfg.scopedSems0_V (Val := Elt F) d (cV L) (jV L), cells_V, bufs_V]
    iintro ⟨#Hlv, -, ⟨Hw, Hk⟩, ⟨⟨%fm, Hm⟩, ⟨%fs, Hi⟩, Hbufs⟩, ⟨Hs, Ht, Hcells⟩, HO⟩
    iapply (tile_run d L (iprop((bigSep (((ownRefs (τ := τ) (.scVector (cV L) (jV L))).erase ((Proc.scVector (cV L) (jV L)).devRef cc0_scratch0)).erase
            ((Proc.scVector (cV L) (jV L)).devRef cc0_scratch1)) fun b => iprop(∃ f, ((d, b) : Loc nD τ sig) ↦{fullShare} f))
        ∗ bigSep (((ownCells (tile d L)).erase (inCell d L)).erase (outCell d L)) fun g => semVal g 0)) (listW m d) (padded_lt _ (hpre d)) hc
        (m (kLoc d)) fm fs O W hO ?_) $$ [Hw Hk Hm Hi Hbufs Hs Ht Hcells HO]
    · iintro ⟨Hw, Hk, Hm, Hi, Hs, Ht, HO, Hbufs, Hcells⟩
      isplitl [Hw Hk]; · isplitl [Hw] <;> iassumption
      isplitl [Hm Hi Hbufs]
      · isplitl [Hm]; · iexists _; iexact Hm
        isplitl [Hi]; · iexists _; iexact Hi
        iexact Hbufs
      isplitl [Hs Ht Hcells]
      · isplitl [Hs]; · iexact Hs
        isplitl [Ht] <;> iassumption
      iexists _; isplitr
      swap; · iexact HO
      ipureintro
      intro p hp
      rcases Finset.mem_insert.mp hp with hp | hp; · exact .inr (hp ▸ rfl)
      rcases Finset.mem_insert.mp hp with hp | hp; · exact .inr (hp ▸ rfl)
      exact .inl hp
    · isplitr; · iexact Hlv
      isplitl [Hw]; · iexact Hw
      isplitl [Hk]; · iexact Hk
      isplitl [Hm]; · iexact Hm
      isplitl [Hi]; · iexact Hi
      isplitl [Hs]; · iexact Hs
      isplitl [Ht]; · iexact Ht
      isplitl [HO]; · iexact HO
      isplitl [Hbufs] <;> iassumption
  · have none_here : ∀ A : sProp 𝕄, atZero (L 1).val (atZero (L 0).val A) = iprop(emp) := fun A => by
      by_cases h1 : (L 1).val = 0
      · rw [h1, atZero_zero]; exact atZero_of_ne (fun h0 => hc ((cond_iff L).mpr ⟨h1, h0⟩)) A
      · exact atZero_of_ne h1 _
    rw [none_here, none_here, cc0_build_eq_skeleton]; unfold cc0_build_skel
    rw [dif_neg hc]
    unfold tileWp
    simp only [wp_bind, wp_pure]
    iintro ⟨-, -, -, Hb, Hs, HO⟩
    try imodintro
    isplitr; · iempintro
    isplitl [Hb]; · iexact Hb
    isplitl [Hs]; · iexact Hs
    iexists W; isplitr
    · ipureintro; exact fun p hp => .inl hp
    iexact HO

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The tiles' row of the kernels' table. -/
theorem defs₀_vector (c : Fin τ.nSC) (s : Fin τ.nSub) :
    defs₀ (F := F) (.scVector c s) 0 ()
      = SparseCore.onTile hcore0 hsub0 (fun c s => cc0_build (coordsV c s) wV (Memref.isWhole_whole _) kV (Memref.isWhole_whole _)
          mV (Memref.isWhole_whole _) iV (Memref.isWhole_whole _) cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch asks for it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.Run

end
-- ==== Proof.Region.lean ====
/-
  The TensorCore kernel: sixteen blocks of 768 rows, each multiplied row by row by the mask. Its body at one block, its
  proof data, and its region over the TensorCore's unscoped buffers at any contents, with what the output array ends
  holding as one function of the input arrays.
-/
module

public import proofs.«01_k».proof.Proof.Setup
public import proofs.«01_k».proof.Proof.Gen.KernelIdeal.Points
public import Idealize.ShloMosaic.Lib.Pipeline.FrameBody
public import Idealize.ShloMosaic.Lib.Pipeline.RegionsLoop
public import Idealize.ShloMosaic.Lib.Pipeline.Value

@[expose] public section

set_option maxRecDepth 16384

noncomputable section

namespace Cert.Proof.Region

open Cert.KernelIdeal Cert.KernelIdeal.Gen Cert.Proof.Run

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-! ## One block -/

/-- The mask's entry that goes with column `n`. -/
def colOf (n : Fin 4096) : S1x4096.Idx := fun a => match a with
  | ⟨0, _⟩ => ⟨0, Nat.one_pos⟩
  | ⟨1, _⟩ => ⟨n.val, n.isLt⟩

/-- A block of rows times the mask: element by element, each by the mask's entry of its column. -/
def rowsTimes (x : Vec F S768x4096 .f32) (k : Vec F S1x4096 .f32) : Vec F S768x4096 .f32 :=
  fun y => FloatOps.mulf (x y) (k (colOf (y 1)))

theorem no_offset : (![0, 0] : Fin 2 → ℕ) = fun _ => 0 := funext fun a => by fin_cases a <;> rfl

/-- What the body stores is the block times the mask. -/
theorem stored_eq (x : Vec F S768x4096 .f32) (k : Vec F S1x4096 .f32) : k1_pay1 x k = rowsTimes x k := by
  unfold k1_pay1
  rw [shapeCast_self, shapeCast_self]
  funext y
  exact congrArg (FloatOps.mulf (x y)) (broadcastTo_apply k _ y (colOf (y 1)) fun a => match a with | ⟨0, _⟩ => rfl | ⟨1, _⟩ => rfl)

/-- The body, from its three staging buffers: the inputs' are left as they were, the output's holds the block times
    the mask. -/
theorem body_run (c : Dev nD) (E : Set ℕ) (i : grid1.Coords) (M0 : Memref sig .tc .vmem S768x4096 .f32) (h0 : M0.IsWhole)
    (M1 : Memref sig .tc .vmem S1x4096 .f32) (h1 : M1.IsWhole) (M2 : Memref sig .tc .vmem S768x4096 .f32) (h2 : M2.IsWhole)
    (x : Vec F S768x4096 .f32) (k : Vec F S1x4096 .f32) (Q : PUnit → sProp 𝕄) :
    iprop(owns (c : Thread nD τ) M0 fullShare x ∗ owns (c : Thread nD τ) M1 fullShare k ∗ (∃ o, owns (c : Thread nD τ) M2 fullShare o)
        ∗ (iprop(owns (c : Thread nD τ) M0 fullShare x ∗ owns (c : Thread nD τ) M1 fullShare k ∗ owns (c : Thread nD τ) M2 fullShare (rowsTimes x k)) -∗ Q ⟨⟩))
      ⊢ wp frame (wpE (defs₀ (F := F)) 𝒱₀ c none) E (cc1_body i M0 h0 M1 h1 M2 h2) Q := by
  rw [cc1_body_eq_skeleton]; unfold cc1_body_skel owns
  iintro ⟨⟨%f0, %e0, H0⟩, ⟨%f1, %e1, H1⟩, ⟨%o, %f2, -, H2⟩, Hk⟩
  subst e0 e1
  sl_exec
  sl_step
  iapply Hk
  isplitl [H0]; · iexists f0; isplitr; (· ipureintro; rfl); iexact H0
  isplitl [H1]; · iexists f1; isplitr; (· ipureintro; rfl); iexact H1
  iexists _; isplitr; swap; (· iexact H2)
  ipureintro
  refine (View.read_writes_eq_canon _ _ _ fun y => View.cover_of_tiled [⟨_, _⟩] S768x4096.size (by rfl) y).trans ?_
  refine (View.canon_unit_zero (S := S768x4096) no_offset _ _).trans ?_
  rw [stored_eq]
  exact congrArg₂ rowsTimes (View.ld_unit_zero (S := S768x4096) no_offset _ _) (View.ld_unit_zero (S := S1x4096) no_offset _ _)

/-! ## The proof data -/

abbrev adm : (p : Fin 1) → (pcfgs (F := F) p).Adm := fun p => (cfgs p).toPCfg_adm

variable (V : (c : Dev nD) → (b : Ref sig .tc) → Buf (Elt F) ((c : Thread nD τ).loc b)) (b : ℕ)

/-- Window `w`'s block at point `t` of the arrays as the region finds them. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data from contents `V`: the arrays at `V`; after the body each input's buffer at its block, the output's at
    the product; nothing owed; every wait recorded before or during the region at or below level `b`. -/
def dat (c : Dev nD) : Dat τ (Elt F) (HIx 1) ℕ UU ℕ cfg1 c where
  A w := V c (Pipeline.arrRef spec1 w)
  after w t := match w with
    | ⟨0, _⟩ => blockAt V c 0 t
    | ⟨1, _⟩ => blockAt V c 1 t
    | ⟨2, _⟩ => rowsTimes (blockAt V c 0 t) (blockAt V c 1 t)
  Φ _ := Pipeline.scopedRest (Ix := HIx 1) (Name := ℕ) (U := UU) (Lvl := ℕ) (Val := Elt F) spec1 c
  q _ := fullShare
  owed _ := 0
  recorded _ := {p | (K (F := F)).lev ((c : Thread nD τ), p.1) p.2 ≤ b}

theorem A_eq (c : Dev nD) (w : Fin cfg1.W) : (dat V b c).A w = V c (Pipeline.arrRef spec1 w) := by dsimp only [dat]
theorem after_x (c : Dev nD) (t : Fin cfg1.N) : (dat V b c).after 0 t = blockAt V c 0 t := by dsimp only [dat]
theorem after_k (c : Dev nD) (t : Fin cfg1.N) : (dat V b c).after 1 t = blockAt V c 1 t := by dsimp only [dat]
theorem after_o (c : Dev nD) (t : Fin cfg1.N) : (dat V b c).after 2 t = rowsTimes (blockAt V c 0 t) (blockAt V c 1 t) := by dsimp only [dat]

/-- The rows' staging buffer holds their block when the body runs. -/
theorem before_x (c : Dev nD) (t : Fin cfg1.N) (o) : (dat V b c).before 0 t o = blockAt V c 0 t :=
  ((dat V b c).before_in_eq_fetched 0 rfl (fun _ => rfl) (fun _ _ _ => rfl)
    (fun t => by rw [after_x]; unfold Dat.blockOf blockAt; rw [A_eq]) t o).trans (by unfold Dat.fetched Dat.blockOf blockAt; rw [A_eq]; rfl)

/-- The mask's staging buffer holds the mask when the body runs. -/
theorem before_k (c : Dev nD) (t : Fin cfg1.N) (o) : (dat V b c).before 1 t o = blockAt V c 1 t :=
  ((dat V b c).before_in_eq_fetched 1 rfl (fun _ => rfl) (fun _ _ _ => rfl)
    (fun t => by rw [after_k]; unfold Dat.blockOf blockAt; rw [A_eq]) t o).trans (by unfold Dat.fetched Dat.blockOf blockAt; rw [A_eq]; rfl)

theorem body_row (t : Fin cfg1.N) : defs₀ (F := F) .tc cfg1.body (cfg1.bodyArgs t (cfg1.slots t)) = bodyAt1 t := rfl

/-- The body at every point of the grid, over the proof data. -/
theorem body_at (c : Dev nD) : BodyObligation (dat V b c) (defs₀ (F := F)) 𝒱₀ (none : HIx 1) Set.univ := fun t => by
  rw [bigSep_W1, bigSep_W1, body_row]
  rw [show (dat V b c).Φ t.succ = (dat V b c).Φ t.castSucc from rfl,
    show (dat V b c).owesAt none t.succ = (dat V b c).owesAt none t.castSucc from rfl, after_x, after_k, after_o]
  simp only [before_x, before_k]
  iintro ⟨HΦ, Ho, ⟨%o0, H0⟩, ⟨%o1, H1⟩, ⟨%o2, H2⟩⟩
  iapply (body_run c Set.univ (grid1.coords t) _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The output array -/

/-- The whole product: each of the 12288 rows times the mask. -/
def product (x : Vec F S12288x4096 .f32) (k : Vec F S1x4096 .f32) : Vec F S12288x4096 .f32 :=
  fun y => FloatOps.mulf (x y) (k (colOf (y 1)))

/-- Where the windows' blocks start and what they span, at every point. -/
theorem spans : ∀ t : Fin grid1.N,
    (win1_0.index t 0 * win1_0.size 0 = t.val * 768 ∧ win1_0.index t 1 * win1_0.size 1 = 0)
    ∧ (win1_1.index t 0 * win1_1.size 0 = 0 ∧ win1_1.index t 1 * win1_1.size 1 = 0)
    ∧ (win1_2.index t 0 * win1_2.size 0 = t.val * 768 ∧ win1_2.index t 1 * win1_2.size 1 = 0)
    ∧ win1_2.xsize (grid1.coords t) 0 = 768 ∧ win1_2.xsize (grid1.coords t) 1 = 4096 := by decide +kernel

/-- What point `t` writes back is block `t` of the whole product. -/
theorem flushed_eq (c : Dev nD) (t : Fin cfg1.N) :
    (dat V b c).flushed 2 t = ((cfg1.win 2).blk t).view.read (Elt F) (product (V c main_v4) (V c main_v5)) := by
  obtain ⟨⟨a0, a1⟩, ⟨k0, k1⟩, ⟨o0, o1⟩, -, -⟩ := spans t
  unfold Dat.flushed
  rw [after_o]
  funext y
  show FloatOps.mulf (V c main_v4 ((win1_0.rect t).idx y)) (V c main_v5 ((win1_1.rect t).idx (colOf (y 1))))
    = FloatOps.mulf (V c main_v4 ((win1_2.rect t).idx y)) (V c main_v5 (colOf (((win1_2.rect t).idx y) 1)))
  refine congrArg₂ FloatOps.mulf (congrArg (V c main_v4) (funext fun a => Fin.ext ?_)) (congrArg (V c main_v5) (funext fun a => Fin.ext ?_))
  · match a with
    | ⟨0, _⟩ => show win1_0.index t 0 * win1_0.size 0 + 1 * (y 0).val = win1_2.index t 0 * win1_2.size 0 + 1 * (y 0).val; rw [a0, o0]
    | ⟨1, _⟩ => show win1_0.index t 1 * win1_0.size 1 + 1 * (y 1).val = win1_2.index t 1 * win1_2.size 1 + 1 * (y 1).val; rw [a1, o1]
  · match a with
    | ⟨0, _⟩ => show win1_1.index t 0 * win1_1.size 0 + 1 * 0 = 0; rw [k0]
    | ⟨1, _⟩ => show win1_1.index t 1 * win1_1.size 1 + 1 * (y 1).val = win1_2.index t 1 * win1_2.size 1 + 1 * (y 1).val; rw [k1, o1]

/-- The blocks cover the array. -/
theorem covered (y : S12288x4096.Idx) : ∃ t : Fin cfg1.N, (cfg1.win 2).flush t = true ∧ y ∈ ((cfg1.win 2).blk t).view.set := by
  have y0 : (y 0).val < 12288 := (y 0).isLt
  have y1 : (y 1).val < 4096 := (y 1).isLt
  have hN : (y 0).val / 768 < grid1.N := by rw [N_1]; omega
  refine ⟨⟨(y 0).val / 768, hN⟩, flush1_2 _, ?_⟩
  obtain ⟨-, -, ⟨o0, o1⟩, s0, s1⟩ := spans ⟨(y 0).val / 768, hN⟩
  show y ∈ ((View.whole main_v6).slice (win1_2.rect ⟨(y 0).val / 768, hN⟩)).set
  rw [View.set_slice_whole, Rect.mem_set_unit]
  intro a
  match a with
  | ⟨0, _⟩ =>
    show win1_2.index ⟨(y 0).val / 768, hN⟩ 0 * win1_2.size 0 ≤ (y 0).val ∧ (y 0).val < win1_2.index ⟨(y 0).val / 768, hN⟩ 0 * win1_2.size 0 + win1_2.xsize (grid1.coords ⟨(y 0).val / 768, hN⟩) 0
    rw [o0, s0]; show (y 0).val / 768 * 768 ≤ (y 0).val ∧ (y 0).val < (y 0).val / 768 * 768 + 768; omega
  | ⟨1, _⟩ =>
    show win1_2.index ⟨(y 0).val / 768, hN⟩ 1 * win1_2.size 1 ≤ (y 1).val ∧ (y 1).val < win1_2.index ⟨(y 0).val / 768, hN⟩ 1 * win1_2.size 1 + win1_2.xsize (grid1.coords ⟨(y 0).val / 768, hN⟩) 1
    rw [o1, s1]; omega

/-- The output array ends holding the whole product. -/
theorem output_eq (c : Dev nD) : (dat V b c).arrAt 2 cfg1.N = product (V c main_v4) (V c main_v5) :=
  (dat V b c).arrAt_eq_of_cover 2 _ (fun t _ => flushed_eq V b c t) covered

/-! ## The region -/

/-- The proof data as the region takes it. -/
def pdats : (p : Fin 1) → (c : Dev nD) → Dat τ (Elt F) (HIx 1) ℕ UU ℕ (Pipeline.pin (pcfgs (F := F)) adm p) c
  | ⟨0, _⟩ => fun c => dat V b c

/-- Core `c` owes nothing, and its recorded waits are at or below level `b`. -/
def idle (c : Dev nD) : sProp 𝕄 :=
  iprop(∃ W, ⌜(K (F := F)).WBelow (c : Thread nD τ) W b⌝ ∗ owes (c : Thread nD τ) (0 : CellTallies nD τ sig (HIx 1)) W)

variable (V' : (c : Dev nD) → (b : Ref sig .tc) → Buf (Elt F) ((c : Thread nD τ).loc b))

set_option backward.isDefEq.respectTransparency.types false in
/-- The region over every unscoped buffer at `V`: it ends with them at `V'`, which holds the product in the output array
    and agrees with `V` on every other buffer. -/
def region (hout : ∀ c, V' c main_v6 = product (V c main_v4) (V c main_v5)) (hkeep : ∀ c (r : Ref sig .tc), r ≠ main_v6 → V' c r = V c r) :
    Pipeline.RegionSeg (pcfgs (F := F)) adm (pdats V b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_at V b c).loose
  hwaits := Pipeline.hwaits_of_owed_zero _ _ _ _ _ _ 0 fun _ _ => rfl
  pre c := iprop(unscopedBufs c (V c) ∗ idle b c)
  post c := iprop(unscopedBufs c (V' c) ∗ idle b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = Pipeline.scopedRest spec1 c from rfl]
    iintro ⟨-, -, Hr⟩; iexact Hr
  hout c := by
    rw [Pipeline.ownSems0_none, show (pdats V b 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (V' c) ((pdats V b 0 c).arrAt · cfg1.N)
      (fun w => match w with
        | ⟨0, _⟩ => ((pdats V b 0 c).arrAt_in 0 rfl _).trans (hkeep c main_v4 (by decide)).symm
        | ⟨1, _⟩ => ((pdats V b 0 c).arrAt_in 1 rfl _).trans (hkeep c main_v5 (by decide)).symm
        | ⟨2, _⟩ => (output_eq V b c).trans (hout c).symm)
      (fun r hr => hkeep c r fun h => hr (h ▸ Finset.mem_image.mpr ⟨2, Finset.mem_univ _, rfl⟩))
    iintro ⟨Ha, HO, -, Hrest⟩
    imodintro
    isplitl [Ha Hrest]
    · iapply hjoin; isplitl [Ha] <;> iassumption
    unfold idle Pipeline.Dat.owesAt Pipeline.owesWithin
    icases HO with ⟨%W, %hW, HO⟩; iexists W; isplitr
    · ipureintro
      intro p hp
      rcases hW hp with h | ⟨w, s, rfl⟩
      · exact h
      · exact Nat.zero_le b
    iexact HO

end Cert.Proof.Region

end
-- ==== Proof.Run.lean ====
/-
  The whole program's run: @main on the TensorCore — the padded list, the SparseCore call that makes the mask, the
  TensorCore kernel that multiplies by it — and the launch of all the threads. It ends with the result array at one
  function of the two arguments, and the arguments as they were.
-/
module

public import proofs.«01_k».proof.Proof.Task
public import proofs.«01_k».proof.Proof.Region

@[expose] public section

set_option maxRecDepth 16384

noncomputable section

namespace Cert.Proof.Run

open Cert.KernelIdeal Cert.KernelIdeal.Gen
open Cert.Proof.Spec
open Cert.Proof.Region (adm product pdats idle region)

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within held_sub_split)

variable {F : FTy → Type} [FloatOps F]

local notation "𝕄" => MT nD τ sig (HIx 1) (Elt F) ℕ UU ℕ

variable (m : (ℓ : Loc nD τ sig) → Buf (Elt F) ℓ) (ρ : Dev nD → PrngReg)

/-! ## @main's operations -/

abbrev opHead : HloOp τ sig (Elt F) := StableHlo.unary main_arg1 main_v0 ((extractStridedSlice S1 ![0] · slices_S409_S1_0) : (⟨S409, .i32⟩ : BufTy).Contents (Elt F) → (⟨S1, .i32⟩ : BufTy).Contents (Elt F))
abbrev opSpread : HloOp τ sig (Elt F) := StableHlo.unary main_v0 main_v1 (broadcastInDim S7 ![0] bcast_S1_S7_0 : (⟨S1, .i32⟩ : BufTy).Contents (Elt F) → (⟨S7, .i32⟩ : BufTy).Contents (Elt F))
abbrev opPad : HloOp τ sig (Elt F) := StableHlo.binary main_arg1 main_v1 main_v2 ((fun a b => concatenate S416 0 [⟨S409, a⟩, ⟨S7, b⟩] concatenates_S409_S7_S416_d0) : (⟨S409, .i32⟩ : BufTy).Contents (Elt F) → (⟨S7, .i32⟩ : BufTy).Contents (Elt F) → (⟨S416, .i32⟩ : BufTy).Contents (Elt F))
abbrev opRows : HloOp τ sig (Elt F) := StableHlo.reshape main_arg0 main_v4 (rfl : (.f32 : EltTy) = .f32) shapeCasts_S16x768x4096_S12288x4096
abbrev opRow : HloOp τ sig (Elt F) := StableHlo.reshape main_v3 main_v5 (rfl : (.f32 : EltTy) = .f32) shapeCasts_S4096_S1x4096
abbrev opBack : HloOp τ sig (Elt F) := StableHlo.reshape main_v6 main_v7 (rfl : (.f32 : EltTy) = .f32) shapeCasts_S12288x4096_S16x768x4096

/-! ## The TensorCore's arrays -/

/-- Its unscoped buffers. -/
def arrays : Finset (DevRef τ sig) := (StableHlo.tcRefs τ sig).filter fun b => ¬ b.isScoped

/-- The buffers at contents `W` are that set held at `W`. -/
theorem unscoped_held (d : Dev nD) (W : Valuation τ sig (Elt F)) :
    (unscopedBufs d (fun b => W b) : sProp 𝕄) = held (SparseCore.T d) arrays W := by
  unfold unscopedBufs StableHlo.held arrays StableHlo.tcRefs
  rw [Finset.filter_map, bigSep_map]
  rfl

theorem mem_arrays (r : Ref sig .tc) (h : r.isScoped = false) : (r : DevRef τ sig) ∈ arrays :=
  Finset.mem_filter.mpr ⟨Finset.mem_map.mpr ⟨r, Finset.mem_univ _, rfl⟩, by
    have e : (r : DevRef τ sig).isScoped = r.isScoped := rfl
    rw [e, h]; decide⟩

/-- The two buffers the SparseCore call works on, and the three the claims speak of. -/
abbrev callArrays : Finset (DevRef τ sig) := {(main_v2 : DevRef τ sig), (main_v3 : DevRef τ sig)}
abbrev claimArrays : Finset (DevRef τ sig) := {(main_arg0 : DevRef τ sig), (main_arg1 : DevRef τ sig), (main_v7 : DevRef τ sig)}

theorem callArrays_sub : callArrays ⊆ arrays :=
  Finset.insert_subset (mem_arrays main_v2 (by decide)) (Finset.singleton_subset_iff.mpr (mem_arrays main_v3 (by decide)))
theorem claimArrays_sub : claimArrays ⊆ arrays :=
  Finset.insert_subset (mem_arrays main_arg0 (by decide)) (Finset.insert_subset (mem_arrays main_arg1 (by decide))
    (Finset.singleton_subset_iff.mpr (mem_arrays main_v7 (by decide))))

theorem pair_sub (x y : Ref sig .tc) (hx : x.isScoped = false) (hy : y.isScoped = false) :
    ({(x : DevRef τ sig), (y : DevRef τ sig)} : Finset (DevRef τ sig)) ⊆ arrays :=
  Finset.insert_subset (mem_arrays x hx) (Finset.singleton_subset_iff.mpr (mem_arrays y hy))

theorem hHead : (opHead (F := F)).bufs ⊆ arrays := pair_sub main_arg1 main_v0 (by decide) (by decide)
theorem hSpread : (opSpread (F := F)).bufs ⊆ arrays := pair_sub main_v0 main_v1 (by decide) (by decide)
theorem hPad : (opPad (F := F)).bufs ⊆ arrays :=
  Finset.insert_subset (mem_arrays main_arg1 (by decide)) (pair_sub main_v1 main_v2 (by decide) (by decide))
theorem hRows : (opRows (F := F)).bufs ⊆ arrays := pair_sub main_arg0 main_v4 (by decide) (by decide)
theorem hRow : (opRow (F := F)).bufs ⊆ arrays := pair_sub main_v3 main_v5 (by decide) (by decide)
theorem hBack : (opBack (F := F)).bufs ⊆ arrays := pair_sub main_v6 main_v7 (by decide) (by decide)

/-! ## Their contents along @main -/

/-- As launched, and after the three operations that pad the list. -/
def V0 (d : Dev nD) : Valuation τ sig (Elt F) := fun b => m (d, b)
def V3 (d : Dev nD) : Valuation τ sig (Elt F) := (opPad (F := F)).result ((opSpread (F := F)).result ((opHead (F := F)).result (V0 m d)))
/-- After the SparseCore call: the mask made. -/
def V4 (d : Dev nD) : Valuation τ sig (Elt F) := Function.update (V3 m d) (main_v3 : DevRef τ sig) (maskK m d)
/-- After the two reshapes. -/
def V6 (d : Dev nD) : Valuation τ sig (Elt F) := (opRow (F := F)).result ((opRows (F := F)).result (V4 m d))
/-- After the TensorCore kernel: the product made. -/
def V7 (d : Dev nD) : Valuation τ sig (Elt F) := Function.update (V6 m d) (main_v6 : DevRef τ sig) (product (V6 m d main_v4) (V6 m d main_v5))
/-- At the end. -/
def V8 (d : Dev nD) : Valuation τ sig (Elt F) := (opBack (F := F)).result (V7 m d)

/-- The program's result, of its two arguments: the rows times the mask of the padded list. -/
def outOf (x : S16x768x4096.Idx → Elt F .f32) (idx : S409.Idx → BitVec 32) : S16x768x4096.Idx → Elt F .f32 :=
  shapeCast S16x768x4096 (product (shapeCast S12288x4096 x shapeCasts_S16x768x4096_S12288x4096)
    (shapeCast S1x4096 (maskUpto (F := F) (padded idx) 416) shapeCasts_S4096_S1x4096)) shapeCasts_S12288x4096_S16x768x4096

theorem V3_v2 (d : Dev nD) : V3 m d main_v2 = listW m d := by
  unfold V3
  rw [StableHlo.binary_result, StableHlo.unary_result, StableHlo.unary_result, StableHlo.unary_result_ne (h := by decide),
    StableHlo.unary_result_ne (h := by decide)]
  rfl

/-- A buffer that none of the padding operations writes keeps its contents. -/
theorem V3_keep (d : Dev nD) (r : Ref sig .tc) (h0 : r ≠ main_v0) (h1 : r ≠ main_v1) (h2 : r ≠ main_v2) : V3 m d r = m (d, r) := by
  unfold V3
  rw [StableHlo.binary_result_ne (h := h2), StableHlo.unary_result_ne (h := h1), StableHlo.unary_result_ne (h := h0)]
  rfl

theorem V4_ne (d : Dev nD) (r : Ref sig .tc) (h : r ≠ main_v3) : V4 m d r = V3 m d r :=
  Function.update_of_ne (fun e => h (Proc.devRef_injective _ e)) _ _
theorem V4_v3 (d : Dev nD) : V4 m d main_v3 = maskK m d := Function.update_self _ _ _
theorem V7_ne (d : Dev nD) (r : Ref sig .tc) (h : r ≠ main_v6) : V7 m d r = V6 m d r :=
  Function.update_of_ne (fun e => h (Proc.devRef_injective _ e)) _ _
theorem V7_v6 (d : Dev nD) : V7 m d main_v6 = product (V6 m d main_v4) (V6 m d main_v5) := Function.update_self _ _ _

/-- An argument is as launched at the end. -/
theorem V8_keep (d : Dev nD) (r : Ref sig .tc) (h : r = main_arg0 ∨ r = main_arg1) : V8 m d r = m (d, r) := by
  have h0 : r ≠ main_v0 := by rcases h with rfl | rfl <;> decide
  have h1 : r ≠ main_v1 := by rcases h with rfl | rfl <;> decide
  have h2 : r ≠ main_v2 := by rcases h with rfl | rfl <;> decide
  have h3 : r ≠ main_v3 := by rcases h with rfl | rfl <;> decide
  have h4 : r ≠ main_v4 := by rcases h with rfl | rfl <;> decide
  have h5 : r ≠ main_v5 := by rcases h with rfl | rfl <;> decide
  have h6 : r ≠ main_v6 := by rcases h with rfl | rfl <;> decide
  have h7 : r ≠ main_v7 := by rcases h with rfl | rfl <;> decide
  unfold V8
  rw [StableHlo.reshape_result_ne (h := h7), V7_ne m d r h6]
  unfold V6
  rw [StableHlo.reshape_result_ne (h := h5), StableHlo.reshape_result_ne (h := h4), V4_ne m d r h3, V3_keep m d r h0 h1 h2]

/-- The result array at the end. -/
theorem V8_v7 (d : Dev nD) : V8 m d main_v7 = outOf (m (xLoc d)) (m (iLoc d)) := by
  have e4 : V6 m d main_v4 = shapeCast S12288x4096 (m (xLoc d)) shapeCasts_S16x768x4096_S12288x4096 := by
    unfold V6
    rw [StableHlo.reshape_result_ne (h := by decide), StableHlo.reshape_result, V4_ne m d main_arg0 (by decide),
      V3_keep m d main_arg0 (by decide) (by decide) (by decide)]
    rfl
  have e5 : V6 m d main_v5 = shapeCast S1x4096 (maskK m d) shapeCasts_S4096_S1x4096 := by
    unfold V6
    rw [StableHlo.reshape_result, StableHlo.reshape_result_ne (h := by decide), V4_v3]
    rfl
  unfold V8
  rw [StableHlo.reshape_result, V7_v6, e4, e5]
  rfl

/-! ## The pieces of the held arrays -/

theorem held_call (d : Dev nD) (W : Valuation τ sig (Elt F)) :
    (held (SparseCore.T d) callArrays W : sProp 𝕄) = iprop(wPts d (W main_v2) ∗ kPts d (W main_v3)) := by
  unfold StableHlo.held callArrays
  rw [SparseCore.bigSep_insert' (by decide), bigSep_singleton]

abbrev oLoc (d : Dev nD) : Loc nD τ sig := (SparseCore.T d).loc main_v7

theorem held_claim (d : Dev nD) (W : Valuation τ sig (Elt F)) :
    (held (SparseCore.T d) claimArrays W : sProp 𝕄)
      = iprop((xLoc d ↦{fullShare} W main_arg0) ∗ (iLoc d ↦{fullShare} W main_arg1) ∗ oLoc d ↦{fullShare} W main_v7) := by
  unfold StableHlo.held claimArrays
  rw [SparseCore.bigSep_insert' (by decide), SparseCore.bigSep_insert' (by decide), bigSep_singleton]

/-- Before the call: its operands, and the other arrays. -/
theorem open_call (d : Dev nD) : (held (SparseCore.T d) arrays (V3 m d) : sProp 𝕄)
    = iprop(operands m d ∗ held (SparseCore.T d) (arrays \ callArrays) (V3 m d)) := by
  rw [held_sub_split (SparseCore.T d) callArrays_sub, held_call, V3_v2, V3_keep m d main_v3 (by decide) (by decide) (by decide)]

/-- After it: its results, and the other arrays. -/
theorem close_call (d : Dev nD) : (held (SparseCore.T d) arrays (V4 m d) : sProp 𝕄)
    = iprop(results m d ∗ held (SparseCore.T d) (arrays \ callArrays) (V3 m d)) := by
  rw [held_sub_split (SparseCore.T d) callArrays_sub, held_call, V4_v3, V4_ne m d main_v2 (by decide), V3_v2]
  refine congrArg (fun A => iprop(results m d ∗ A)) (StableHlo.held_congr (SparseCore.T d) fun b hb => ?_)
  refine Function.update_of_ne (fun e => (Finset.mem_sdiff.mp hb).2 ?_) _ _
  rw [e]
  exact Finset.mem_insert_of_mem (Finset.mem_singleton_self _)

/-- What @main leaves the claims: the arguments as launched, the result. -/
abbrev FIN (d : Dev nD) : sProp 𝕄 :=
  iprop((xLoc d ↦{fullShare} m (xLoc d)) ∗ (iLoc d ↦{fullShare} m (iLoc d)) ∗ oLoc d ↦{fullShare} outOf (m (xLoc d)) (m (iLoc d)))

theorem open_end (d : Dev nD) : (held (SparseCore.T d) arrays (V8 m d) : sProp 𝕄)
    = iprop(FIN m d ∗ held (SparseCore.T d) (arrays \ claimArrays) (V8 m d)) := by
  rw [held_sub_split (SparseCore.T d) claimArrays_sub, held_claim, V8_v7, V8_keep m d main_arg0 (.inl rfl), V8_keep m d main_arg1 (.inr rfl)]

/-! ## The TensorCore kernel's region inside the program -/

/-- What the region needs of the launch: its staging cells' ghost state and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The call of the TensorCore kernel, in the kernels' own signature: @main's is that one lifted. -/
def call : Prog (TpuEff nD τ sig (Elt F) (ΛP (F := F)) .tc) PUnit := .op (.customCall (Pipeline.entry 0) ()) fun _ => .ret ⟨⟩
theorem call_lift : (Prog.lift (.customCall (SparseCore.inner (Pipeline.entry 0)) ()) : Prog (TpuEff nD τ sig (Elt F) (SparseCore.Sig (ΛP (F := F)) 1) .tc) PUnit)
    = SparseCore.liftProg (call (F := F)) := rfl

/-- The region, from every array at `V6` to every array at `V7`. -/
abbrev seg := region (fun d r => V6 m d r) 8 (fun d r => V7 m d r) (fun d => V7_v6 m d) (fun d r hr => V7_ne m d r hr)

theorem seg_pre (d : Dev nD) : (seg m).pre d = iprop(held (SparseCore.T d) arrays (V6 m d) ∗ idle (F := F) 8 d) := by
  rw [← unscoped_held]; rfl
theorem seg_post (d : Dev nD) : (seg m).post d = iprop(held (SparseCore.T d) arrays (V7 m d) ∗ idle (F := F) 8 d) := by
  rw [← unscoped_held]; rfl

/-- The region from every array at `V6`, owing nothing: it ends with the arrays at `V7`, owing nothing. -/
theorem region_step [∀ e, Nonempty (Elt F e)] (d : Dev nD) (Φ : PUnit → sProp 𝕄) :
    iprop((iprop(boundary (SparseCore.T d) ∗ held (SparseCore.T d) arrays (V7 m d) ∗ idle (F := F) 8 d) -∗ Φ ⟨⟩)
        ∗ boundary (SparseCore.T d) ∗ iprop(held (SparseCore.T d) arrays (V6 m d) ∗ idle (F := F) 8 d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  rw [call_lift]
  refine BIBase.Entails.trans ?_ ((K (F := F)).wp_liftProg (D (F := F)) 𝒱 (SparseCore.T d) Set.univ none (call (F := F)) Φ)
  have h := Pipeline.RegionSeg.wp (pcfgs (F := F)) adm (pdats (fun d r => V6 m d r) 8) (none : HIx 1) cellOf_inj EP defs₀ 𝒱₀ (K (F := F)).L (K (F := F)).lev
    (seg m) d none (fun u hu => nomatch hu) (fun _ => .ret ⟨⟩) Φ
  rw [seg_pre, seg_post] at h
  unfold call G
  refine BIBase.Entails.trans (sep_mono_left ?_) h
  iintro Hk H
  rw [wp_ret]; imodintro
  iapply Hk; iexact H

/-- After the one call the TensorCore owes nothing; the rest of its state bypasses the region. -/
theorem tc_open (d : Dev nD) : ((K (F := F)).tcSt EH d 1 : sProp 𝕄) ⊢ iprop(idle (F := F) 8 d ∗ (idle (F := F) 8 d -∗ (K (F := F)).tcSt EH d 1)) := by
  unfold SparseCore.Cfg.tcSt idle
  rw [(K (F := F)).Otc_end d (n := 1) le_rfl]
  iintro ⟨HO, Hrest⟩
  isplitl [HO]; · iexact HO
  iintro HO
  isplitl [HO]; · iexact HO
  iexact Hrest

/-! ## @main -/

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrays (V0 m d) from unscoped_held d (V0 m d)]
  simp only [main, wp_bind, wp_pure]
  iintro ⟨#Hctx, Hst, ⟨Hb, Hheld, Hts, -⟩, HG⟩
  iapply (wp_hlo_within 𝒱 (SparseCore.T d) none Set.univ (op := opHead) (S := arrays) hHead (V := V0 m d)) $$ [Hb Hheld]
  · isplitl [Hb] <;> iassumption
  iintro ⟨Hb, Hheld⟩
  rw [wp_ret]; imodintro
  iapply (wp_hlo_within 𝒱 (SparseCore.T d) none Set.univ (op := opSpread) (S := arrays) hSpread (V := (opHead (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := arrays) hPad (V := (opSpread (F := F)).result ((opHead (F := F)).result (V0 m d)))) $$ [Hb Hheld]
  · isplitl [Hb] <;> iassumption
  iintro ⟨Hb, Hheld⟩
  rw [wp_ret]; imodintro
  -- the SparseCore call
  ihave Hh := (Entails.of_eq (show (held (SparseCore.T d) arrays ((opPad (F := F)).result ((opSpread (F := F)).result ((opHead (F := F)).result (V0 m d)))) : sProp 𝕄) = _ from open_call m d)) $$ Hheld
  icases Hh with ⟨Hops, Hothers⟩
  iapply ((K (F := F)).wp_run (D (F := F)) 𝒱 (EH := EH) (P := P m) κ d 0) $$ [Hst Hops Hothers Hb Hts HG]
  isplitr; · iexact Hctx
  isplitl [Hst]; · iexact Hst
  isplitl [Hops]; · rw [st_all]; iexact Hops
  iintro ⟨Hst, Hdn⟩
  ihave Hres := (Entails.of_eq (dn_all m d)) $$ Hdn
  ihave Hheld := (Entails.of_eq (close_call m d).symm) $$ [Hres Hothers]
  · isplitl [Hres] <;> iassumption
  -- the reshapes
  iapply (wp_hlo_within 𝒱 (SparseCore.T d) none Set.univ (op := opRows) (S := arrays) hRows (V := V4 m d)) $$ [Hb Hheld]
  · isplitl [Hb] <;> iassumption
  iintro ⟨Hb, Hheld⟩
  rw [wp_ret]; imodintro
  iapply (wp_hlo_within 𝒱 (SparseCore.T d) none Set.univ (op := opRow) (S := arrays) hRow (V := (opRows (F := F)).result (V4 m d))) $$ [Hb Hheld]
  · isplitl [Hb] <;> iassumption
  iintro ⟨Hb, Hheld⟩
  rw [wp_ret]; imodintro
  -- the TensorCore kernel
  ihave Hopen := (show ((K (F := F)).tcSt EH d ((0 : Fin 1).val + 1) : sProp 𝕄) ⊢ _ from tc_open (F := F) d) $$ Hst
  icases Hopen with ⟨Hidle, Hback⟩
  ihave Hlv := (SparseCore.Cfg.ctx_levAts κ) $$ Hctx
  iapply (region_step m d _) $$ [Hb Hheld Hidle Hback Hlv Hts HG]
  isplitr [Hb Hheld Hidle Hlv HG]
  swap
  · isplitl [Hb]; · iexact Hb
    isplitl [Hheld Hidle]
    · isplitl [Hheld]
      · iexact Hheld
      · iexact Hidle
    isplitl [Hlv] <;> iassumption
  iintro ⟨Hb, Hheld, Hidle⟩
  iapply (wp_hlo_within 𝒱 (SparseCore.T d) none Set.univ (op := opBack) (S := arrays) hBack (V := V7 m d)) $$ [Hb Hheld]
  · isplitl [Hb] <;> iassumption
  iintro ⟨Hb, Hheld⟩
  ihave Hh := (Entails.of_eq (show (held (SparseCore.T d) arrays ((opBack (F := F)).result (V7 m d)) : sProp 𝕄) = _ from open_end m d)) $$ Hheld
  icases Hh with ⟨HF, -⟩
  rw [wp_ret]; imodintro; imodintro
  isplitl [Hback Hidle]; · iapply Hback; iexact Hidle
  isplitl [HF]; · iexact HF
  isplitl [Hb] <;> iassumption

/-! ## The launch -/

/-- The launch's ghost state: the SparseCore launch's rounds, the pipeline's rounds, the counters. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The pipeline's ghost state, device by device. -/
theorem ghosts : iprop((bigSep Finset.univ fun c : Dev nD => bigSep Finset.univ fun p => (Pipeline.cellsGhost (Pipeline.pin (pcfgs (F := F)) adm) EP p c : sProp 𝕄))
      ∗ bigSep Finset.univ fun c : Dev nD => bigSep Finset.univ fun p => (Pipeline.toksInit (Pipeline.pin (pcfgs (F := F)) adm) EP p c : sProp 𝕄))
    ⊢ bigSep Finset.univ fun d : Dev nD => G (F := F) d := by
  unfold G
  rw [bigSep_sep']
  exact Entails.of_eq (congrArg₂ (fun A B => iprop(A ∗ B))
    (bigSep_congr fun _ _ => bigSep_univ_of_subsingleton (0 : Fin 1)) (bigSep_congr fun _ _ => bigSep_univ_of_subsingleton (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_parts (F := F) _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · iapply (ghosts (F := F)) $$ [Hg Ht]
    isplitl [Hg] <;> iassumption
  rw [show (bigSep Finset.univ fun thr : Thread nD τ => bigSep Finset.univ fun q : Fin 1 => (P (F := F) m).x q thr) = iprop(emp) from
    (bigSep_congr fun _ _ => bigSep_univ_of_subsingleton (0 : Fin 1)).trans (bigSep_emp_const _)]
  iempintro

/-- What the final memory holds on device `d`. -/
def fq (d : Dev nD) (s' : Phys nD τ sig (Elt F)) : Prop :=
  s'.mem.mem (oLoc d) = outOf (m (xLoc d)) (m (iLoc d)) ∧ s'.mem.mem (xLoc d) = m (xLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%hi, HSI, -⟩
  ihave H := (SI_pointsTo_agree (st := s') (ℓ := oLoc d) (I := Finset.univ) (q := fullShare) (f := outOf (m (xLoc d)) (m (iLoc d)))) $$ [HSI Ho]
  · isplitl [HSI] <;> iassumption
  icases H with %ho
  ipureintro
  exact ⟨funext fun i => ho i (Finset.mem_univ i), funext fun i => hx i (Finset.mem_univ i), funext fun i => hi i (Finset.mem_univ i)⟩

/-- The final memory on every device, and every semaphore back at zero. -/
def QC : PUnit × MemSt nD τ sig (Elt F) → Prop := fun r =>
  (∀ d : Dev nD, r.2.mem (oLoc d) = outOf (m (xLoc d)) (m (iLoc d)) ∧ r.2.mem (xLoc d) = m (xLoc d) ∧ r.2.mem (iLoc d) = m (iLoc d))
    ∧ r.2.sem = fun _ => 0

/-- The whole program's run, from indices below 4096. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Run

end
-- ==== Proof.Ref.lean ====
/-
  The reference's value: the scatter of zeros along the last axis, read at an index, is zero at the time steps that some
  index names and the operand elsewhere.
-/
module

public import proofs.«01_k».proof.Proof.Gen.ReferenceIdeal.Run
public import Idealize.ShloMosaic.Lib.Pipeline.Value
public import Idealize.ShloMosaic.Lib.Routing.OpsPair
public import Idealize.ShloMosaic.Lib.Routing.OpsSet

@[expose] public section

noncomputable section

namespace Cert.Proof.Ref

open Cert.ReferenceIdeal Cert.ReferenceIdeal.Gen
open Idealize.ShloMosaic

variable {F : FTy → Type} [FloatOps F]

/-- The scatter's dimension numbers. -/
abbrev dims : ScatterDims S16x768x4096 S409x1 S16x768x409 := scatter_S16x768x4096_S409x1_S16x768x409_01_2_2_1

/-- The place of index word `n` in the scatter's [409, 1] table. -/
def row (n : Fin 409) : S409x1.Idx := fun a => match a with | ⟨0, _⟩ => n | ⟨1, _⟩ => (0 : Fin 1)

/-- Update (b, c, n) lands at (b', c', t) exactly when b = b', c = c' and the table's word n, read signed, is t. -/
theorem lands (j : S16x768x409.Idx) (tab : IVec S409x1 32) (y : S16x768x4096.Idx) :
    dims.resultIdx? j tab = some y ↔ (j 0).val = (y 0).val ∧ (j 1).val = (y 1).val ∧ (tab (row (j 2))).toInt = ((y 2).val : Int) := by
  have s0 : dims.start j tab 0 = 0 := rfl
  have s1 : dims.start j tab 1 = 0 := rfl
  have hrow : dims.siIdx j ⟨0, Nat.one_pos⟩ = row (j 2) := by
    funext a
    match a with
    | ⟨0, _⟩ => rfl
    | ⟨1, _⟩ => rfl
  have s2 : dims.start j tab 2 = (tab (row (j 2))).toInt := congrArg (fun k => (tab k).toInt) hrow
  have w0 : dims.window j 0 = (j 0).val := rfl
  have w1 : dims.window j 1 = (j 1).val := rfl
  have w2 : dims.window j 2 = 0 := rfl
  rw [Routing.resultIdx?_eq_some]
  constructor
  · intro h
    have h0 := h 0; have h1 := h 1; have h2 := h 2
    rw [s0, w0] at h0; rw [s1, w1] at h1; rw [s2, w2] at h2
    exact ⟨by omega, by omega, by omega⟩
  · rintro ⟨h0, h1, h2⟩ a
    have e0 : dims.start j tab 0 + (dims.window j 0 : Int) = ((y 0).val : Int) := by rw [s0, w0]; omega
    have e1 : dims.start j tab 1 + (dims.window j 1 : Int) = ((y 1).val : Int) := by rw [s1, w1]; omega
    have e2 : dims.start j tab 2 + (dims.window j 2 : Int) = ((y 2).val : Int) := by rw [s2, w2]; omega
    match a with
    | ⟨0, _⟩ => exact e0
    | ⟨1, _⟩ => exact e1
    | ⟨2, _⟩ => exact e2

/-- The reference's table of index words: a negative word counts from the end. -/
def table (idx : S409.Idx → BitVec 32) : S409x1.Idx → BitVec 32 :=
  broadcastInDim S409x1 ![0] bcast_S409_S409x1_0 (select (cmpi .slt idx (broadcastInDim S409 ![] bcast_S_S409 (constantI S_ 32 0#32)))
    (addi idx (broadcastInDim S409 ![] bcast_S_S409 (constantI S_ 32 4096#32))) idx)

/-- The reference's result, of its two arguments. -/
def refOf (x : S16x768x4096.Idx → F .f32) (idx : S409.Idx → BitVec 32) : S16x768x4096.Idx → F .f32 :=
  Host.scatter dims (fun _ b => b) x (table idx) (broadcastInDim S16x768x409 ![] bcast_S_S16x768x409 (constant S_ .f32 0x00000000#32))

/-- A word below 4096 stands in the table as it is. -/
theorem table_row (idx : S409.Idx → BitVec 32) (i : S409.Idx) (h : (idx i).toNat < 4096) : table idx (row (i 0)) = idx i := by
  unfold table
  rw [broadcastInDim_apply _ _ _ _ i fun a => match a with | ⟨0, _⟩ => rfl]
  exact Routing.wrap_of_lt (idx i) _ (by omega)

open Classical in
/-- Zero at the time steps that an index names, `x` elsewhere. -/
def masked (x : S16x768x4096.Idx → F .f32) (idx : S409.Idx → BitVec 32) : S16x768x4096.Idx → F .f32 := fun y =>
  if ∃ i, (idx i).toNat = (y 2).val then Scalar.ofBits .f32 0x00000000#32 else x y

/-- With every index below 4096, the reference is `masked`. -/
theorem refOf_eq (x : S16x768x4096.Idx → F .f32) (idx : S409.Idx → BitVec 32) (h : ∀ i, (idx i).toNat < 4096) : refOf x idx = masked x idx := by
  have signed : ∀ i, (table idx (row (i 0))).toInt = ((idx i).toNat : Int) := fun i => by
    rw [table_row idx i (h i)]
    have := h i
    rw [BitVec.toInt_eq_toNat_cond]
    omega
  funext y
  unfold refOf masked
  by_cases hn : ∃ i, (idx i).toNat = (y 2).val
  · rw [if_pos hn]
    obtain ⟨i, hi⟩ := hn
    refine Routing.scatter_set_hit dims x _ _ y _ (fun _ _ => rfl)
      (fun a => match a with | ⟨0, _⟩ => y 0 | ⟨1, _⟩ => y 1 | ⟨2, _⟩ => i 0) ((lands _ _ y).mpr ⟨rfl, rfl, ?_⟩)
    exact (signed i).trans (congrArg Nat.cast hi)
  · rw [if_neg hn]
    refine Routing.scatter_set_miss dims x _ _ y fun k hk => hn ?_
    have e := ((lands k _ y).mp hk).2.2
    refine ⟨fun a => match a with | ⟨0, _⟩ => k 2, ?_⟩
    have s := signed fun a => match a with | ⟨0, _⟩ => k 2
    exact Int.ofNat_inj.mp (s.symm.trans e)

end Cert.Proof.Ref

end
-- ==== Proof.Equation.lean ====
/-
  The two programs' values are one function of the arguments: the product of an element and the mask at its time step is
  zero where an index names the step and the element elsewhere. And what the claims' precondition says of the indices.
-/
module

public import proofs.«01_k».proof.Proof.Run
public import proofs.«01_k».proof.Proof.Ref
public import proofs.«01_k».proof.Proof.Gen.Pre_in_range
public import Idealize.ShloMosaic.Lib.ReduceAll
public import Idealize.ShloMosaic.Lib.Affine
public import Idealize.ShloMosaic.Lib.IdealHost
public import Idealize.ShloMosaic.PureOps.Ideal.Laws

@[expose] public section

noncomputable section

namespace Cert.Proof.Equation

open Cert.KernelIdeal Cert.KernelIdeal.Gen
open Cert.Proof.Spec Cert.Proof.Run
open Cert.Proof.Region (product colOf)
open Idealize.ShloMosaic

variable {F : FTy → Type} [FloatOps F]

/-- The place of (b, c, t) in the array of rows: row 768 b + c, column t. -/
def flat (y : S16x768x4096.Idx) : S12288x4096.Idx := fun a => match a with
  | ⟨0, _⟩ => ⟨(y 0).val * 768 + (y 1).val, by
      have h0 : (y 0).val < 16 := (y 0).isLt
      have h1 : (y 1).val < 768 := (y 1).isLt
      show _ < 12288; omega⟩
  | ⟨1, _⟩ => y 2

theorem flat_pos (y : S16x768x4096.Idx) : (S16x768x4096.rowMajor y).val = (S12288x4096.rowMajor (flat y)).val := by
  rw [Shape.rowMajor_val_three, Shape.rowMajor_val_two]; rfl

/-- The time step of (b, c, t), as an index of the mask. -/
def step (y : S16x768x4096.Idx) : S4096.Idx := fun a => match a with | ⟨0, _⟩ => y 2

/-- The program's result at an index: the element times the mask at its time step. -/
theorem outOf_apply (x : S16x768x4096.Idx → F .f32) (idx : S409.Idx → BitVec 32) (y : S16x768x4096.Idx) :
    outOf x idx y = FloatOps.mulf (x y) (maskUpto (F := F) (padded idx) 416 (step y)) := by
  unfold outOf
  rw [shapeCast_apply _ _ y (flat y) (flat_pos y).symm]
  unfold product
  rw [shapeCast_apply _ _ (flat y) y (flat_pos y), shapeCast_apply _ _ (colOf (flat y 1)) (step y) (by
    rw [Shape.rowMajor_val_one, Shape.rowMajor_val_two]
    show (y 2).val = 0 * 4096 + (y 2).val
    omega)]

/-- At the ideal instance the program's result is `masked`, at any indices. -/
theorem outOf_eq (x : S16x768x4096.Idx → Ideal .f32) (idx : S409.Idx → BitVec 32) :
    outOf (F := Ideal) x idx = Cert.Proof.Ref.masked (F := Ideal) x idx := by
  funext y
  rw [outOf_apply]
  unfold maskUpto Cert.Proof.Ref.masked
  have hz : (zeroE : Ideal .f32) = (0 : EReal) := Ideal.ofBits_zero_f32
  have ho : (oneE : Ideal .f32) = (1 : EReal) := Ideal.ofBits_one_f32
  by_cases h : ∃ i, (idx i).toNat = (y 2).val
  · rw [if_pos h, if_pos (show Named (padded idx) 416 (step y 0).val from (named_padded idx _).mpr h)]
    show (x y : EReal) * (zeroE : Ideal .f32) = (zeroE : Ideal .f32)
    rw [hz]; exact mul_zero (x y : EReal)
  · rw [if_neg h, if_neg (show ¬ Named (padded idx) 416 (step y 0).val from fun q => h ((named_padded idx _).mp q))]
    show (x y : EReal) * (oneE : Ideal .f32) = x y
    rw [ho]; exact mul_one (x y : EReal)

/-- The precondition's bit says that every index, as a word, is below 4096. -/
theorem below_of_pre (x : S16x768x4096.Idx → F .f32) (idx : S409.Idx → BitVec 32)
    (h : Cert.Pre_in_range.fn (F := F) x idx = fun _ => 1#1) (i : S409.Idx) : (idx i).toNat < 4096 := by
  have bits : ∀ p q : BitVec 1, IntOp.andi p q = 1#1 → p = 1#1 ∧ q = 1#1 := by decide
  have e := congrFun h (fun a => a.elim0)
  dsimp only [Cert.Pre_in_range.fn] at e
  obtain ⟨hge, hlt⟩ := bits _ _ e
  have : Subsingleton Cert.Pre_in_range.S_.Idx := ⟨fun a b => funext fun k => k.elim0⟩
  have h0 := IntOp.cmpi_sge.mp (Host.reduce_andi_all _ _ _ _ _ hge i)
  have h1 := IntOp.cmpi_slt.mp (Host.reduce_andi_all _ _ _ _ _ hlt i)
  change (0#32 : BitVec 32).toInt ≤ (idx i).toInt at h0
  change (idx i).toInt < (4096#32 : BitVec 32).toInt at h1
  rw [show (0#32 : BitVec 32).toInt = 0 by decide] at h0
  rw [show (4096#32 : BitVec 32).toInt = 4096 by decide] at h1
  rw [BitVec.toInt_eq_toNat_cond] at h0 h1
  omega

end Cert.Proof.Equation

end
-- ==== Proof.Claims.lean ====
/-
  The claims: each is the one run of Proof/Run.lean at an instance of the floats, or the reference's generated run, with
  the values read by Proof/Equation.lean and Proof/Ref.lean.
-/
module

public import proofs.«01_k».proof.Proof.Equation
public import proofs.«01_k».proof.Proof.Gen.Kernel
public import Idealize.ShloMosaic.Lib.Quiescent

@[expose] public section

set_option maxRecDepth 16384

noncomputable section

namespace Cert.Proof.Claims

open Cert.Proof.Run Cert.Proof.Equation
open Idealize.ShloMosaic Idealize.ShloMosaic.TcCoe Idealize.SL.Sem

/-- The two printings have one table of kernel bodies: at each label, on each processor, the bodies are one text. -/
theorem defs₀_eq : Cert.Kernel.defs₀ (F := Bits) = Cert.KernelIdeal.defs₀ (F := Bits) := by
  funext p ℓ a
  fin_cases ℓ <;> cases p <;> rfl

/-- So the launches built on it are one table. -/
theorem defs_eq : Cert.Kernel.defs (F := Bits) = Cert.KernelIdeal.defs (F := Bits) :=
  congrArg (fun d => (Cert.KernelIdeal.sc (F := Bits)).defs (Pipeline.defs Cert.KernelIdeal.pcfgs d)) defs₀_eq

/-- The program as printed runs as its idealization's text does, the two texts being one. -/
theorem run_kernel (m : (ℓ : Loc Cert.Kernel.nD Cert.Kernel.τ Cert.Kernel.sig) → Buf (Elt Bits) ℓ) (g : Dev Cert.Kernel.nD → PrngReg)
    (hpre : Cert.Pre_Kernel m) :
    θ_run (Cert.Kernel.defs (F := Bits)) (Cert.Kernel.threads (F := Bits)) ⟨m, fun _ => 0, g⟩ (QC (F := Bits) m) := by
  rw [defs_eq]
  exact run_main (F := Bits) m g fun d j => below_of_pre _ _ (hpre d) j

/-- The program as printed: it runs, its arguments end as they were, and every counter ends at zero. -/
theorem frame_kernel : Cert.quiescent_Kernel := fun m g hpre =>
  (θ_run Cert.Kernel.defs _ _).mono (fun _ (h : QC (F := Bits) m _) => ⟨fun c => (h.1 c).2, h.2⟩) (run_kernel m g hpre)

/-- The same of the program read at the ideal instance. -/
theorem frame_ideal : Cert.quiescent_KernelIdeal := fun m g hpre =>
  (θ_run Cert.KernelIdeal.defs _ _).mono (fun _ h => ⟨fun c => (h.1 c).2, h.2⟩)
    (run_main (F := Ideal) m g fun d j => below_of_pre _ _ (hpre d) j)

/-- The reference, from any memory: it declares no semaphore, so every counter is zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Under the precondition, in particular. -/
theorem frame_reference_pre : Cert.quiescent_ReferenceIdeal_pre_in_range := fun m g _ => frame_reference m g trivial

/-- The program and the reference end with one result at the ideal instance. -/
theorem equal_values : Cert.algebraic_KernelIdeal_ReferenceIdeal := by
  intro m g m' g' hpre hargs
  have hlt : ∀ (d : Dev Cert.KernelIdeal.nD) (i : Cert.KernelIdeal.S409.Idx), (m (iLoc d) i).toNat < 4096 :=
    fun d i => below_of_pre _ _ (hpre d) i
  refine ⟨fun c => outOf (F := Ideal) (m (xLoc c)) (m (iLoc c)), ?_, ?_⟩
  · exact (θ_run Cert.KernelIdeal.defs _ _).mono (fun _ h => h.1) (run_main (F := Ideal) m g hlt)
  · refine (θ_run Cert.ReferenceIdeal.defs _ _).mono (fun _ h c => ⟨(h c).1.trans ?_, (h c).2⟩)
      (Cert.ReferenceIdeal.Value.run (F := Ideal) m' g')
    rw [(hargs c).1, (hargs c).2]
    exact (Cert.Proof.Ref.refOf_eq (F := Ideal) (m (xLoc c)) (m (iLoc c)) (hlt c)).trans (outOf_eq _ _).symm

end Cert.Proof.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_in_range.Gen.facts,
  Claims.frame_kernel, Claims.frame_ideal, Claims.frame_reference, Claims.frame_reference_pre, trivial, Claims.equal_values⟩

end Cert.Proof

end
